-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.1 = (fun _ => 1#1)
    ∧ (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.1 = (fun _ => 1#1)
    ∧ (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.2 = (fun _ => 1#1)

def Pre_RecurrenceIdeal (m : (ℓ : Loc Cert.RecurrenceIdeal.nD Cert.RecurrenceIdeal.τ Cert.RecurrenceIdeal.sig) → Buf (Elt Ideal) ℓ) : Prop :=
  True

def Pre_RecurrenceIdeal_finite_ReferenceIdeal [hPre_finite_ReferenceIdeal : Cert.Pre_finite_ReferenceIdeal.Facts] (m : (ℓ : Loc Cert.RecurrenceIdeal.nD Cert.RecurrenceIdeal.τ Cert.RecurrenceIdeal.sig) → Buf (Elt Ideal) ℓ) : Prop :=
  ∀ c : Dev Cert.RecurrenceIdeal.nD,
    (Cert.Pre_finite_ReferenceIdeal.fn (F := Ideal) (m ((c.tc : Thread Cert.RecurrenceIdeal.nD Cert.RecurrenceIdeal.τ).loc Cert.RecurrenceIdeal.main_arg0)) (m ((c.tc : Thread Cert.RecurrenceIdeal.nD Cert.RecurrenceIdeal.τ).loc Cert.RecurrenceIdeal.main_arg1)) (m ((c.tc : Thread Cert.RecurrenceIdeal.nD Cert.RecurrenceIdeal.τ).loc Cert.RecurrenceIdeal.main_arg2)) (m ((c.tc : Thread Cert.RecurrenceIdeal.nD Cert.RecurrenceIdeal.τ).loc Cert.RecurrenceIdeal.main_arg3))).1 = (fun _ => 1#1)
    ∧ (Cert.Pre_finite_ReferenceIdeal.fn (F := Ideal) (m ((c.tc : Thread Cert.RecurrenceIdeal.nD Cert.RecurrenceIdeal.τ).loc Cert.RecurrenceIdeal.main_arg0)) (m ((c.tc : Thread Cert.RecurrenceIdeal.nD Cert.RecurrenceIdeal.τ).loc Cert.RecurrenceIdeal.main_arg1)) (m ((c.tc : Thread Cert.RecurrenceIdeal.nD Cert.RecurrenceIdeal.τ).loc Cert.RecurrenceIdeal.main_arg2)) (m ((c.tc : Thread Cert.RecurrenceIdeal.nD Cert.RecurrenceIdeal.τ).loc Cert.RecurrenceIdeal.main_arg3))).2.1 = (fun _ => 1#1)
    ∧ (Cert.Pre_finite_ReferenceIdeal.fn (F := Ideal) (m ((c.tc : Thread Cert.RecurrenceIdeal.nD Cert.RecurrenceIdeal.τ).loc Cert.RecurrenceIdeal.main_arg0)) (m ((c.tc : Thread Cert.RecurrenceIdeal.nD Cert.RecurrenceIdeal.τ).loc Cert.RecurrenceIdeal.main_arg1)) (m ((c.tc : Thread Cert.RecurrenceIdeal.nD Cert.RecurrenceIdeal.τ).loc Cert.RecurrenceIdeal.main_arg2)) (m ((c.tc : Thread Cert.RecurrenceIdeal.nD Cert.RecurrenceIdeal.τ).loc Cert.RecurrenceIdeal.main_arg3))).2.2.1 = (fun _ => 1#1)
    ∧ (Cert.Pre_finite_ReferenceIdeal.fn (F := Ideal) (m ((c.tc : Thread Cert.RecurrenceIdeal.nD Cert.RecurrenceIdeal.τ).loc Cert.RecurrenceIdeal.main_arg0)) (m ((c.tc : Thread Cert.RecurrenceIdeal.nD Cert.RecurrenceIdeal.τ).loc Cert.RecurrenceIdeal.main_arg1)) (m ((c.tc : Thread Cert.RecurrenceIdeal.nD Cert.RecurrenceIdeal.τ).loc Cert.RecurrenceIdeal.main_arg2)) (m ((c.tc : Thread Cert.RecurrenceIdeal.nD Cert.RecurrenceIdeal.τ).loc Cert.RecurrenceIdeal.main_arg3))).2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_RecurrenceIdeal [hRecurrenceIdeal : Cert.RecurrenceIdeal.Facts] : Prop :=
  ∀ (m : (ℓ : Loc Cert.RecurrenceIdeal.nD Cert.RecurrenceIdeal.τ Cert.RecurrenceIdeal.sig) → Buf (Elt Ideal) ℓ) (g : Dev Cert.RecurrenceIdeal.nD → PrngReg), Pre_RecurrenceIdeal m →
    θ_run (Cert.RecurrenceIdeal.defs (F := Ideal)) (onTc (τ := Cert.RecurrenceIdeal.τ) (Cert.RecurrenceIdeal.main (F := Ideal))) ⟨m, fun _ => 0, g⟩ (fun r => (∀ c : Dev Cert.RecurrenceIdeal.nD,
      r.2.mem ((c.tc : Thread Cert.RecurrenceIdeal.nD Cert.RecurrenceIdeal.τ).loc Cert.RecurrenceIdeal.main_arg0) = m ((c.tc : Thread Cert.RecurrenceIdeal.nD Cert.RecurrenceIdeal.τ).loc Cert.RecurrenceIdeal.main_arg0)
      ∧ r.2.mem ((c.tc : Thread Cert.RecurrenceIdeal.nD Cert.RecurrenceIdeal.τ).loc Cert.RecurrenceIdeal.main_arg1) = m ((c.tc : Thread Cert.RecurrenceIdeal.nD Cert.RecurrenceIdeal.τ).loc Cert.RecurrenceIdeal.main_arg1)
      ∧ r.2.mem ((c.tc : Thread Cert.RecurrenceIdeal.nD Cert.RecurrenceIdeal.τ).loc Cert.RecurrenceIdeal.main_arg2) = m ((c.tc : Thread Cert.RecurrenceIdeal.nD Cert.RecurrenceIdeal.τ).loc Cert.RecurrenceIdeal.main_arg2)
      ∧ r.2.mem ((c.tc : Thread Cert.RecurrenceIdeal.nD Cert.RecurrenceIdeal.τ).loc Cert.RecurrenceIdeal.main_arg3) = m ((c.tc : Thread Cert.RecurrenceIdeal.nD Cert.RecurrenceIdeal.τ).loc Cert.RecurrenceIdeal.main_arg3))
      ∧ r.2.sem = fun _ => 0)

def quiescent_RecurrenceIdeal_pre_finite_ReferenceIdeal [hRecurrenceIdeal : Cert.RecurrenceIdeal.Facts] [hPre_finite_ReferenceIdeal : Cert.Pre_finite_ReferenceIdeal.Facts] : Prop :=
  ∀ (m : (ℓ : Loc Cert.RecurrenceIdeal.nD Cert.RecurrenceIdeal.τ Cert.RecurrenceIdeal.sig) → Buf (Elt Ideal) ℓ) (g : Dev Cert.RecurrenceIdeal.nD → PrngReg), Pre_RecurrenceIdeal_finite_ReferenceIdeal m →
    θ_run (Cert.RecurrenceIdeal.defs (F := Ideal)) (onTc (τ := Cert.RecurrenceIdeal.τ) (Cert.RecurrenceIdeal.main (F := Ideal))) ⟨m, fun _ => 0, g⟩ (fun r => (∀ c : Dev Cert.RecurrenceIdeal.nD,
      r.2.mem ((c.tc : Thread Cert.RecurrenceIdeal.nD Cert.RecurrenceIdeal.τ).loc Cert.RecurrenceIdeal.main_arg0) = m ((c.tc : Thread Cert.RecurrenceIdeal.nD Cert.RecurrenceIdeal.τ).loc Cert.RecurrenceIdeal.main_arg0)
      ∧ r.2.mem ((c.tc : Thread Cert.RecurrenceIdeal.nD Cert.RecurrenceIdeal.τ).loc Cert.RecurrenceIdeal.main_arg1) = m ((c.tc : Thread Cert.RecurrenceIdeal.nD Cert.RecurrenceIdeal.τ).loc Cert.RecurrenceIdeal.main_arg1)
      ∧ r.2.mem ((c.tc : Thread Cert.RecurrenceIdeal.nD Cert.RecurrenceIdeal.τ).loc Cert.RecurrenceIdeal.main_arg2) = m ((c.tc : Thread Cert.RecurrenceIdeal.nD Cert.RecurrenceIdeal.τ).loc Cert.RecurrenceIdeal.main_arg2)
      ∧ r.2.mem ((c.tc : Thread Cert.RecurrenceIdeal.nD Cert.RecurrenceIdeal.τ).loc Cert.RecurrenceIdeal.main_arg3) = m ((c.tc : Thread Cert.RecurrenceIdeal.nD Cert.RecurrenceIdeal.τ).loc Cert.RecurrenceIdeal.main_arg3))
      ∧ r.2.sem = fun _ => 0)

def preserves_Kernel_KernelIdeal : Prop :=
  True

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = Layout.blockN ⟨3, ![8, 512, 512]⟩ ⟨3, ![8, 1024, 512]⟩ (Layout.meshBlock [2, 2] ![[], [1], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.blockN ⟨3, ![8, 512, 16]⟩ ⟨3, ![8, 1024, 16]⟩ (Layout.meshBlock [2, 2] ![[], [1], []] c) (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.blockN ⟨3, ![8, 512, 16]⟩ ⟨3, ![8, 1024, 16]⟩ (Layout.meshBlock [2, 2] ![[], [1], []] c) (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v6_9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![8, 512, 512]⟩ ⟨3, ![8, 1024, 512]⟩ (Layout.meshBlock [2, 2] ![[], [1], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v6_9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def algebraic_KernelIdeal_RecurrenceIdeal_on_corrected_rows_pre_finite_KernelIdeal [hKernelIdeal : Cert.KernelIdeal.Facts] [hRecurrenceIdeal : Cert.RecurrenceIdeal.Facts] [hPre_finite_KernelIdeal : Cert.Pre_finite_KernelIdeal.Facts] [hOn_corrected_rows : Cert.On_corrected_rows.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.RecurrenceIdeal.nD Cert.RecurrenceIdeal.τ Cert.RecurrenceIdeal.sig) → Buf (Elt Ideal) ℓ) (g' : Dev Cert.RecurrenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = Layout.blockN ⟨3, ![8, 512, 512]⟩ ⟨3, ![8, 1024, 512]⟩ (Layout.meshBlock [2, 2] ![[], [1], []] c) (m' (((0 : Dev Cert.RecurrenceIdeal.nD).tc : Thread Cert.RecurrenceIdeal.nD Cert.RecurrenceIdeal.τ).loc Cert.RecurrenceIdeal.main_arg0))
      ∧ m ((c.tc : Thread Cert.KernelIdeal.nD Cert.KernelIdeal.τ).loc Cert.KernelIdeal.main_arg1) = m' (((0 : Dev Cert.RecurrenceIdeal.nD).tc : Thread Cert.RecurrenceIdeal.nD Cert.RecurrenceIdeal.τ).loc Cert.RecurrenceIdeal.main_arg1)
      ∧ m ((c.tc : Thread Cert.KernelIdeal.nD Cert.KernelIdeal.τ).loc Cert.KernelIdeal.main_arg2) = Layout.blockN ⟨3, ![8, 512, 16]⟩ ⟨3, ![8, 1024, 16]⟩ (Layout.meshBlock [2, 2] ![[], [1], []] c) (m' (((0 : Dev Cert.RecurrenceIdeal.nD).tc : Thread Cert.RecurrenceIdeal.nD Cert.RecurrenceIdeal.τ).loc Cert.RecurrenceIdeal.main_arg2))
      ∧ m ((c.tc : Thread Cert.KernelIdeal.nD Cert.KernelIdeal.τ).loc Cert.KernelIdeal.main_arg3) = Layout.blockN ⟨3, ![8, 512, 16]⟩ ⟨3, ![8, 1024, 16]⟩ (Layout.meshBlock [2, 2] ![[], [1], []] c) (m' (((0 : Dev Cert.RecurrenceIdeal.nD).tc : Thread Cert.RecurrenceIdeal.nD Cert.RecurrenceIdeal.τ).loc Cert.RecurrenceIdeal.main_arg3))) →
    ∃ (v0 : Buf (Elt Ideal) (((0 : Dev Cert.RecurrenceIdeal.nD).tc : Thread Cert.RecurrenceIdeal.nD Cert.RecurrenceIdeal.τ).loc Cert.RecurrenceIdeal.main_v6_8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨3, ![8, 512, 512]⟩ : Shape).Idx, (Layout.blockN ⟨3, ![8, 512, 512]⟩ ⟨3, ![8, 1024, 512]⟩ (Layout.meshBlock [2, 2] ![[], [1], []] c) ((Cert.On_corrected_rows.fn (F := Ideal) (m' (((0 : Dev Cert.RecurrenceIdeal.nD).tc : Thread Cert.RecurrenceIdeal.nD Cert.RecurrenceIdeal.τ).loc Cert.RecurrenceIdeal.main_arg0)) (m' (((0 : Dev Cert.RecurrenceIdeal.nD).tc : Thread Cert.RecurrenceIdeal.nD Cert.RecurrenceIdeal.τ).loc Cert.RecurrenceIdeal.main_arg1)) (m' (((0 : Dev Cert.RecurrenceIdeal.nD).tc : Thread Cert.RecurrenceIdeal.nD Cert.RecurrenceIdeal.τ).loc Cert.RecurrenceIdeal.main_arg2)) (m' (((0 : Dev Cert.RecurrenceIdeal.nD).tc : Thread Cert.RecurrenceIdeal.nD Cert.RecurrenceIdeal.τ).loc Cert.RecurrenceIdeal.main_arg3)))) : (⟨3, ![8, 512, 512]⟩ : Shape).Idx → _) i = 1#1 → r.2.mem ((c.tc : Thread Cert.KernelIdeal.nD Cert.KernelIdeal.τ).loc Cert.KernelIdeal.main_v1) i = (Layout.blockN ⟨3, ![8, 512, 512]⟩ ⟨3, ![8, 1024, 512]⟩ (Layout.meshBlock [2, 2] ![[], [1], []] c) v0 : (⟨3, ![8, 512, 512]⟩ : Shape).Idx → _) i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.RecurrenceIdeal.defs (F := Ideal)) (onTc (τ := Cert.RecurrenceIdeal.τ) (Cert.RecurrenceIdeal.main (F := Ideal))) ⟨m', fun _ => 0, g'⟩ (fun r =>
          (∀ i : (⟨3, ![8, 1024, 512]⟩ : Shape).Idx, (Cert.On_corrected_rows.fn (F := Ideal) (m' (((0 : Dev Cert.RecurrenceIdeal.nD).tc : Thread Cert.RecurrenceIdeal.nD Cert.RecurrenceIdeal.τ).loc Cert.RecurrenceIdeal.main_arg0)) (m' (((0 : Dev Cert.RecurrenceIdeal.nD).tc : Thread Cert.RecurrenceIdeal.nD Cert.RecurrenceIdeal.τ).loc Cert.RecurrenceIdeal.main_arg1)) (m' (((0 : Dev Cert.RecurrenceIdeal.nD).tc : Thread Cert.RecurrenceIdeal.nD Cert.RecurrenceIdeal.τ).loc Cert.RecurrenceIdeal.main_arg2)) (m' (((0 : Dev Cert.RecurrenceIdeal.nD).tc : Thread Cert.RecurrenceIdeal.nD Cert.RecurrenceIdeal.τ).loc Cert.RecurrenceIdeal.main_arg3))) i = 1#1 → r.2.mem (((0 : Dev Cert.RecurrenceIdeal.nD).tc : Thread Cert.RecurrenceIdeal.nD Cert.RecurrenceIdeal.τ).loc Cert.RecurrenceIdeal.main_v6_8) i = v0 i)
          ∧ r.2.mem (((0 : Dev Cert.RecurrenceIdeal.nD).tc : Thread Cert.RecurrenceIdeal.nD Cert.RecurrenceIdeal.τ).loc Cert.RecurrenceIdeal.main_arg0) = m' (((0 : Dev Cert.RecurrenceIdeal.nD).tc : Thread Cert.RecurrenceIdeal.nD Cert.RecurrenceIdeal.τ).loc Cert.RecurrenceIdeal.main_arg0)
          ∧ r.2.mem (((0 : Dev Cert.RecurrenceIdeal.nD).tc : Thread Cert.RecurrenceIdeal.nD Cert.RecurrenceIdeal.τ).loc Cert.RecurrenceIdeal.main_arg1) = m' (((0 : Dev Cert.RecurrenceIdeal.nD).tc : Thread Cert.RecurrenceIdeal.nD Cert.RecurrenceIdeal.τ).loc Cert.RecurrenceIdeal.main_arg1)
          ∧ r.2.mem (((0 : Dev Cert.RecurrenceIdeal.nD).tc : Thread Cert.RecurrenceIdeal.nD Cert.RecurrenceIdeal.τ).loc Cert.RecurrenceIdeal.main_arg2) = m' (((0 : Dev Cert.RecurrenceIdeal.nD).tc : Thread Cert.RecurrenceIdeal.nD Cert.RecurrenceIdeal.τ).loc Cert.RecurrenceIdeal.main_arg2)
          ∧ r.2.mem (((0 : Dev Cert.RecurrenceIdeal.nD).tc : Thread Cert.RecurrenceIdeal.nD Cert.RecurrenceIdeal.τ).loc Cert.RecurrenceIdeal.main_arg3) = m' (((0 : Dev Cert.RecurrenceIdeal.nD).tc : Thread Cert.RecurrenceIdeal.nD Cert.RecurrenceIdeal.τ).loc Cert.RecurrenceIdeal.main_arg3))

def Claim : Prop :=
  ∃ (hKernel : Cert.Kernel.Facts) (hKernelIdeal : Cert.KernelIdeal.Facts) (hReferenceIdeal : Cert.ReferenceIdeal.Facts) (hRecurrenceIdeal : Cert.RecurrenceIdeal.Facts) (hPre_finite_KernelIdeal : Cert.Pre_finite_KernelIdeal.Facts) (hPre_finite_ReferenceIdeal : Cert.Pre_finite_ReferenceIdeal.Facts) (hOn_corrected_rows : Cert.On_corrected_rows.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ quiescent_RecurrenceIdeal (hRecurrenceIdeal := hRecurrenceIdeal)
    ∧ quiescent_RecurrenceIdeal_pre_finite_ReferenceIdeal (hRecurrenceIdeal := hRecurrenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
    ∧ algebraic_KernelIdeal_RecurrenceIdeal_on_corrected_rows_pre_finite_KernelIdeal (hKernelIdeal := hKernelIdeal) (hRecurrenceIdeal := hRecurrenceIdeal) (hPre_finite_KernelIdeal := hPre_finite_KernelIdeal) (hOn_corrected_rows := hOn_corrected_rows)
-- ==== On_corrected_rows.lean ====
abbrev S8x1024x512 : Shape := ⟨3, ![8, 1024, 512]⟩
abbrev S512x16 : Shape := ⟨2, ![512, 16]⟩
abbrev S8x1024x16 : Shape := ⟨3, ![8, 1024, 16]⟩
abbrev S1024 : Shape := ⟨1, ![1024]⟩
abbrev S1x1024x1 : Shape := ⟨3, ![1, 1024, 1]⟩
abbrev S_ : Shape := ⟨0, ![]⟩

class Facts : Prop where
  bcast_S1024_S1x1024x1_1 : S1024.BroadcastsInDim S1x1024x1 (![1] : Fin 1 → Fin S1x1024x1.rank)
  bcast_S_S1x1024x1 : S_.BroadcastsInDim S1x1024x1 (![] : Fin 0 → Fin S1x1024x1.rank)
  bcast_S1x1024x1_S8x1024x512_0_1_2 : S1x1024x1.BroadcastsInDim S8x1024x512 (![0, 1, 2] : Fin 3 → Fin S8x1024x512.rank)

variable [Facts]

def fn {F : FTy → Type} [FloatOps F] (main_arg0 : FVec F S8x1024x512 .f32) (main_arg1 : FVec F S512x16 .f32) (main_arg2 : FVec F S8x1024x16 .f32) (main_arg3 : FVec F S8x1024x16 .f32) : IVec S8x1024x512 1 :=
  let main_v0 : IVec S1024 32 := iotaInDim S1024 32 0
  let main_v1 : IVec S1x1024x1 32 := broadcastInDim S1x1024x1 ![1] bcast_S1024_S1x1024x1_1 main_v0
  let main_c : IVec S_ 32 := constantI S_ 32 576#32
  let main_v2 : IVec S1x1024x1 32 := broadcastInDim S1x1024x1 ![] bcast_S_S1x1024x1 main_c
  let main_v3 : IVec S1x1024x1 1 := cmpi .slt main_v1 main_v2
  let main_v4 : IVec S8x1024x512 1 := broadcastInDim S8x1024x512 ![0, 1, 2] bcast_S1x1024x1_S8x1024x512_0_1_2 main_v3
  main_v4
-- ==== Pre_finite_KernelIdeal.lean ====
abbrev S8x512x512 : Shape := ⟨3, ![8, 512, 512]⟩
abbrev S512x16 : Shape := ⟨2, ![512, 16]⟩
abbrev S8x512x16 : Shape := ⟨3, ![8, 512, 16]⟩
abbrev S_ : Shape := ⟨0, ![]⟩

class Facts : Prop where
  bcast_S_S8x512x512 : S_.BroadcastsInDim S8x512x512 (![] : Fin 0 → Fin S8x512x512.rank)
  bcast_S_S512x16 : S_.BroadcastsInDim S512x16 (![] : Fin 0 → Fin S512x16.rank)
  bcast_S_S8x512x16 : S_.BroadcastsInDim S8x512x16 (![] : Fin 0 → Fin S8x512x16.rank)

variable [Facts]

def fn {F : FTy → Type} [FloatOps F] (main_arg0 : FVec F S8x512x512 .f32) (main_arg1 : FVec F S512x16 .f32) (main_arg2 : FVec F S8x512x16 .f32) (main_arg3 : FVec F S8x512x16 .f32) : IVec S8x512x512 1 × IVec S512x16 1 × IVec S8x512x16 1 × IVec S8x512x16 1 :=
  let main_v0 : FVec F S8x512x512 .f32 := Host.absf main_arg0
  let main_cst : FVec F S_ .f32 := constant S_ .f32 0x7F800000#32
  let main_v1 : FVec F S8x512x512 .f32 := broadcastInDim S8x512x512 ![] bcast_S_S8x512x512 main_cst
  let main_v2 : IVec S8x512x512 1 := cmpf .olt main_v0 main_v1
  let main_v3 : FVec F S512x16 .f32 := Host.absf main_arg1
  let main_cst_0 : FVec F S_ .f32 := constant S_ .f32 0x7F800000#32
  let main_v4 : FVec F S512x16 .f32 := broadcastInDim S512x16 ![] bcast_S_S512x16 main_cst_0
  let main_v5 : IVec S512x16 1 := cmpf .olt main_v3 main_v4
  let main_v6 : FVec F S8x512x16 .f32 := Host.absf main_arg2
  let main_cst_1 : FVec F S_ .f32 := constant S_ .f32 0x7F800000#32
  let main_v7 : FVec F S8x512x16 .f32 := broadcastInDim S8x512x16 ![] bcast_S_S8x512x16 main_cst_1
  let main_v8 : IVec S8x512x16 1 := cmpf .olt main_v6 main_v7
  let main_v9 : FVec F S8x512x16 .f32 := Host.absf main_arg3
  let main_cst_2 : FVec F S_ .f32 := constant S_ .f32 0x7F800000#32
  let main_v10 : FVec F S8x512x16 .f32 := broadcastInDim S8x512x16 ![] bcast_S_S8x512x16 main_cst_2
  let main_v11 : IVec S8x512x16 1 := cmpf .olt main_v9 main_v10
  (main_v2, main_v5, main_v8, main_v11)
-- ==== Pre_finite_ReferenceIdeal.lean ====
abbrev S8x1024x512 : Shape := ⟨3, ![8, 1024, 512]⟩
abbrev S512x16 : Shape := ⟨2, ![512, 16]⟩
abbrev S8x1024x16 : Shape := ⟨3, ![8, 1024, 16]⟩
abbrev S_ : Shape := ⟨0, ![]⟩

class Facts : Prop where
  bcast_S_S8x1024x512 : S_.BroadcastsInDim S8x1024x512 (![] : Fin 0 → Fin S8x1024x512.rank)
  bcast_S_S512x16 : S_.BroadcastsInDim S512x16 (![] : Fin 0 → Fin S512x16.rank)
  bcast_S_S8x1024x16 : S_.BroadcastsInDim S8x1024x16 (![] : Fin 0 → Fin S8x1024x16.rank)

variable [Facts]

def fn {F : FTy → Type} [FloatOps F] (main_arg0 : FVec F S8x1024x512 .f32) (main_arg1 : FVec F S512x16 .f32) (main_arg2 : FVec F S8x1024x16 .f32) (main_arg3 : FVec F S8x1024x16 .f32) : IVec S8x1024x512 1 × IVec S512x16 1 × IVec S8x1024x16 1 × IVec S8x1024x16 1 :=
  let main_v0 : FVec F S8x1024x512 .f32 := Host.absf main_arg0
  let main_cst : FVec F S_ .f32 := constant S_ .f32 0x7F800000#32
  let main_v1 : FVec F S8x1024x512 .f32 := broadcastInDim S8x1024x512 ![] bcast_S_S8x1024x512 main_cst
  let main_v2 : IVec S8x1024x512 1 := cmpf .olt main_v0 main_v1
  let main_v3 : FVec F S512x16 .f32 := Host.absf main_arg1
  let main_cst_0 : FVec F S_ .f32 := constant S_ .f32 0x7F800000#32
  let main_v4 : FVec F S512x16 .f32 := broadcastInDim S512x16 ![] bcast_S_S512x16 main_cst_0
  let main_v5 : IVec S512x16 1 := cmpf .olt main_v3 main_v4
  let main_v6 : FVec F S8x1024x16 .f32 := Host.absf main_arg2
  let main_cst_1 : FVec F S_ .f32 := constant S_ .f32 0x7F800000#32
  let main_v7 : FVec F S8x1024x16 .f32 := broadcastInDim S8x1024x16 ![] bcast_S_S8x1024x16 main_cst_1
  let main_v8 : IVec S8x1024x16 1 := cmpf .olt main_v6 main_v7
  let main_v9 : FVec F S8x1024x16 .f32 := Host.absf main_arg3
  let main_cst_2 : FVec F S_ .f32 := constant S_ .f32 0x7F800000#32
  let main_v10 : FVec F S8x1024x16 .f32 := broadcastInDim S8x1024x16 ![] bcast_S_S8x1024x16 main_cst_2
  let main_v11 : IVec S8x1024x16 1 := cmpf .olt main_v9 main_v10
  (main_v2, main_v5, main_v8, main_v11)
-- ==== Kernel.lean ====
abbrev S8x512x512 : Shape := ⟨3, ![8, 512, 512]⟩
abbrev S512x16 : Shape := ⟨2, ![512, 16]⟩
abbrev S8x512x16 : Shape := ⟨3, ![8, 512, 16]⟩
abbrev S8x16x512 : Shape := ⟨3, ![8, 16, 512]⟩
abbrev S8x64x16x512 : Shape := ⟨4, ![8, 64, 16, 512]⟩
abbrev S_ : Shape := ⟨0, ![]⟩
abbrev S16x512 : Shape := ⟨2, ![16, 512]⟩
abbrev S8x64x512 : Shape := ⟨3, ![8, 64, 512]⟩
abbrev S8x64x16 : Shape := ⟨3, ![8, 64, 16]⟩
abbrev S8x64x1x512 : Shape := ⟨4, ![8, 64, 1, 512]⟩
abbrev S8x64x16x1 : Shape := ⟨4, ![8, 64, 16, 1]⟩
abbrev S1x16x512 : Shape := ⟨3, ![1, 16, 512]⟩
abbrev S8x1x16x512 : Shape := ⟨4, ![8, 1, 16, 512]⟩
abbrev S64x16x512 : Shape := ⟨3, ![64, 16, 512]⟩
abbrev S1x64x16 : Shape := ⟨3, ![1, 64, 16]⟩
abbrev S64x16 : Shape := ⟨2, ![64, 16]⟩
abbrev S64x16x1 : Shape := ⟨3, ![64, 16, 1]⟩
abbrev S64x512 : Shape := ⟨2, ![64, 512]⟩
abbrev S1x64x512 : Shape := ⟨3, ![1, 64, 512]⟩

abbrev nBuf : Space → Nat
  | .hbm => 5
  | .vmem => 8
  | .smem => 0
  | _ => 0

abbrev bufTy : (tb : Table) → Fin (tcTables nBuf tb) → BufTy
  | .hbm, ⟨0, _⟩ => ⟨S8x512x512, .f32⟩
  | .hbm, ⟨1, _⟩ => ⟨S512x16, .f32⟩
  | .hbm, ⟨2, _⟩ => ⟨S8x512x16, .f32⟩
  | .hbm, ⟨3, _⟩ => ⟨S8x512x16, .f32⟩
  | .hbm, ⟨4, _⟩ => ⟨S8x512x512, .f32⟩
  | .local _ .vmem, ⟨0, _⟩ => ⟨S8x512x512, .f32⟩
  | .local _ .vmem, ⟨1, _⟩ => ⟨S512x16, .f32⟩
  | .local _ .vmem, ⟨2, _⟩ => ⟨S8x512x16, .f32⟩
  | .local _ .vmem, ⟨3, _⟩ => ⟨S8x512x16, .f32⟩
  | .local _ .vmem, ⟨4, _⟩ => ⟨S8x512x512, .f32⟩
  | .local _ .vmem, ⟨5, _⟩ => ⟨S8x16x512, .f32⟩
  | .local _ .vmem, ⟨6, _⟩ => ⟨S8x16x512, .f32⟩
  | .local _ .vmem, ⟨7, _⟩ => ⟨S8x64x16x512, .f32⟩
  | _, _ => ⟨S8x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  (ofTc nBuf bufTy 1 7 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_scratch0 : Ref sig .tc := ⟨.vmem, 5, rfl⟩
abbrev cc0_scratch1 : Ref sig .tc := ⟨.vmem, 6, rfl⟩
abbrev cc0_scratch2 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_4 : BitVec 32 := 2#32
  let v8 : BitVec 32 := Scalar.muli v2 c2_i32_4
  let v9 : BitVec 32 := Scalar.addi c0_i32 v8
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_5 : BitVec 32 := 1#32
  let v10 : BitVec 32 := Scalar.muli v6 c1_i32_5
  let v11 : BitVec 32 := Scalar.addi v9 v10
  v11.toNat
@[reducible] def k0_t1_loop : Scf.Loop 32 :=
  let c0_i32_18 : BitVec 32 := 0#32
  let c64_i32 : BitVec 32 := 64#32
  let v29 : BitVec 32 := Scalar.addi c0_i32_18 c64_i32
  let c1_i32_19 : BitVec 32 := 1#32
  ⟨c0_i32_18, v29, c1_i32_19⟩
def k0_off1 (k0_t1 : Fin k0_t1_loop.trips) : Fin 4 → Nat :=
  let c0_207 : Index := 0#32
  let c0_i32_18 : BitVec 32 := 0#32
  let c1_i32_19 : BitVec 32 := 1#32
  let arg10 : BitVec 32 := Scf.iv c0_i32_18 c1_i32_19 k0_t1
  let v205 : Index := Scalar.indexCast arg10
  let c0_208 : Index := 0#32
  let c0_209 : Index := 0#32
  ![0, v205.toNat, 0, 0]
@[reducible] def k0_t2_loop : Scf.Loop 32 :=
  let c0_i32_41 : BitVec 32 := 0#32
  let c64_i32_42 : BitVec 32 := 64#32
  let v51 : BitVec 32 := Scalar.addi c0_i32_41 c64_i32_42
  let c1_i32_43 : BitVec 32 := 1#32
  ⟨c0_i32_41, v51, c1_i32_43⟩
def k0_off2 (k0_t2 : Fin k0_t2_loop.trips) : Fin 4 → Nat :=
  let c0_207 : Index := 0#32
  let c0_i32_41 : BitVec 32 := 0#32
  let c1_i32_43 : BitVec 32 := 1#32
  let arg10 : BitVec 32 := Scf.iv c0_i32_41 c1_i32_43 k0_t2
  let v205 : Index := Scalar.indexCast arg10
  let c0_208 : Index := 0#32
  let c0_209 : Index := 0#32
  ![0, v205.toNat, 0, 0]
@[reducible] def k0_t3_loop : Scf.Loop 32 :=
  let c0_i32_65 : BitVec 32 := 0#32
  let c64_i32_66 : BitVec 32 := 64#32
  let v73 : BitVec 32 := Scalar.addi c0_i32_65 c64_i32_66
  let c1_i32_67 : BitVec 32 := 1#32
  ⟨c0_i32_65, v73, c1_i32_67⟩
def k0_off3 (k0_t3 : Fin k0_t3_loop.trips) : Fin 4 → Nat :=
  let c0_207 : Index := 0#32
  let c0_i32_65 : BitVec 32 := 0#32
  let c1_i32_67 : BitVec 32 := 1#32
  let arg10 : BitVec 32 := Scf.iv c0_i32_65 c1_i32_67 k0_t3
  let v205 : Index := Scalar.indexCast arg10
  let c0_208 : Index := 0#32
  let c0_209 : Index := 0#32
  ![0, v205.toNat, 0, 0]
@[reducible] def k0_t4_loop : Scf.Loop 32 :=
  let c0_i32_89 : BitVec 32 := 0#32
  let c64_i32_90 : BitVec 32 := 64#32
  let v95 : BitVec 32 := Scalar.addi c0_i32_89 c64_i32_90
  let c1_i32_91 : BitVec 32 := 1#32
  ⟨c0_i32_89, v95, c1_i32_91⟩
def k0_off4 (k0_t4 : Fin k0_t4_loop.trips) : Fin 4 → Nat :=
  let c0_207 : Index := 0#32
  let c0_i32_89 : BitVec 32 := 0#32
  let c1_i32_91 : BitVec 32 := 1#32
  let arg10 : BitVec 32 := Scf.iv c0_i32_89 c1_i32_91 k0_t4
  let v205 : Index := Scalar.indexCast arg10
  let c0_208 : Index := 0#32
  let c0_209 : Index := 0#32
  ![0, v205.toNat, 0, 0]
@[reducible] def k0_t5_loop : Scf.Loop 32 :=
  let c0_i32_113 : BitVec 32 := 0#32
  let c64_i32_114 : BitVec 32 := 64#32
  let v117 : BitVec 32 := Scalar.addi c0_i32_113 c64_i32_114
  let c1_i32_115 : BitVec 32 := 1#32
  ⟨c0_i32_113, v117, c1_i32_115⟩
def k0_off5 (k0_t5 : Fin k0_t5_loop.trips) : Fin 4 → Nat :=
  let c0_207 : Index := 0#32
  let c0_i32_113 : BitVec 32 := 0#32
  let c1_i32_115 : BitVec 32 := 1#32
  let arg10 : BitVec 32 := Scf.iv c0_i32_113 c1_i32_115 k0_t5
  let v205 : Index := Scalar.indexCast arg10
  let c0_208 : Index := 0#32
  let c0_209 : Index := 0#32
  ![0, v205.toNat, 0, 0]
@[reducible] def k0_t6_loop : Scf.Loop 32 :=
  let c0_i32_137 : BitVec 32 := 0#32
  let c64_i32_138 : BitVec 32 := 64#32
  let v139 : BitVec 32 := Scalar.addi c0_i32_137 c64_i32_138
  let c1_i32_139 : BitVec 32 := 1#32
  ⟨c0_i32_137, v139, c1_i32_139⟩
def k0_off6 (k0_t6 : Fin k0_t6_loop.trips) : Fin 4 → Nat :=
  let c0_207 : Index := 0#32
  let c0_i32_137 : BitVec 32 := 0#32
  let c1_i32_139 : BitVec 32 := 1#32
  let arg10 : BitVec 32 := Scf.iv c0_i32_137 c1_i32_139 k0_t6
  let v205 : Index := Scalar.indexCast arg10
  let c0_208 : Index := 0#32
  let c0_209 : Index := 0#32
  ![0, v205.toNat, 0, 0]
@[reducible] def k0_t7_loop : Scf.Loop 32 :=
  let c0_i32_161 : BitVec 32 := 0#32
  let c64_i32_162 : BitVec 32 := 64#32
  let v161 : BitVec 32 := Scalar.addi c0_i32_161 c64_i32_162
  let c1_i32_163 : BitVec 32 := 1#32
  ⟨c0_i32_161, v161, c1_i32_163⟩
def k0_off7 (k0_t7 : Fin k0_t7_loop.trips) : Fin 4 → Nat :=
  let c0_207 : Index := 0#32
  let c0_i32_161 : BitVec 32 := 0#32
  let c1_i32_163 : BitVec 32 := 1#32
  let arg10 : BitVec 32 := Scf.iv c0_i32_161 c1_i32_163 k0_t7
  let v205 : Index := Scalar.indexCast arg10
  let c0_208 : Index := 0#32
  let c0_209 : Index := 0#32
  ![0, v205.toNat, 0, 0]
@[reducible] def k0_t8_loop : Scf.Loop 32 :=
  let c0_i32_185 : BitVec 32 := 0#32
  let c64_i32_186 : BitVec 32 := 64#32
  let v183 : BitVec 32 := Scalar.addi c0_i32_185 c64_i32_186
  let c1_i32_187 : BitVec 32 := 1#32
  ⟨c0_i32_185, v183, c1_i32_187⟩
def k0_off8 (k0_t8 : Fin k0_t8_loop.trips) : Fin 4 → Nat :=
  let c0_207 : Index := 0#32
  let c0_i32_185 : BitVec 32 := 0#32
  let c1_i32_187 : BitVec 32 := 1#32
  let arg10 : BitVec 32 := Scf.iv c0_i32_185 c1_i32_187 k0_t8
  let v205 : Index := Scalar.indexCast arg10
  let c0_208 : Index := 0#32
  let c0_209 : Index := 0#32
  ![0, v205.toNat, 0, 0]
def k0_cond1 (d0 : Dev nD) : BitVec 1 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_203 : BitVec 32 := 0#32
  let v196 : BitVec 1 := Scalar.cmpi .eq v5 c0_i32_203
  let v197 : BitVec 32 := Scalar.extui v196
  let c0_i32_204 : BitVec 32 := 0#32
  let v198 : BitVec 1 := Scalar.cmpi .ne v197 c0_i32_204
  v198

def k0_dev2 (d0 : Dev nD) : Nat :=
  let c0_i32_208 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_207 : BitVec 32 := 2#32
  let v202 : BitVec 32 := Scalar.muli v2 c2_i32_207
  let v203 : BitVec 32 := Scalar.addi c0_i32_208 v202
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_209 : BitVec 32 := 1#32
  let v204 : BitVec 32 := Scalar.muli v6 c1_i32_209
  let v205 : BitVec 32 := Scalar.addi v203 v204
  v205.toNat
abbrev stage0_0 : Fin 1 → Memref sig .tc .vmem S8x512x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x512x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x512x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8x512x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S8x1024x512 : Shape := ⟨3, ![8, 1024, 512]⟩
abbrev S512x16 : Shape := ⟨2, ![512, 16]⟩
abbrev S8x1024x16 : Shape := ⟨3, ![8, 1024, 16]⟩
abbrev S1x512x16 : Shape := ⟨3, ![1, 512, 16]⟩
abbrev S1024 : Shape := ⟨1, ![1024]⟩
abbrev S1024x1 : Shape := ⟨2, ![1024, 1]⟩
abbrev S_ : Shape := ⟨0, ![]⟩
abbrev S8x512x16 : Shape := ⟨3, ![8, 512, 16]⟩
abbrev S8x1x512 : Shape := ⟨3, ![8, 1, 512]⟩
abbrev S8x512 : Shape := ⟨2, ![8, 512]⟩
abbrev S8x512x1 : Shape := ⟨3, ![8, 512, 1]⟩
abbrev S8x1x16 : Shape := ⟨3, ![8, 1, 16]⟩
abbrev S8x16 : Shape := ⟨2, ![8, 16]⟩

abbrev nBuf : Space → Nat
  | .hbm => 74
  | .vmem => 0
  | .smem => 0
  | _ => 0

abbrev bufTy : (tb : Table) → Fin (tcTables nBuf tb) → BufTy
  | .hbm, ⟨0, _⟩ => ⟨S8x1024x512, .f32⟩
  | .hbm, ⟨1, _⟩ => ⟨S512x16, .f32⟩
  | .hbm, ⟨2, _⟩ => ⟨S8x1024x16, .f32⟩
  | .hbm, ⟨3, _⟩ => ⟨S8x1024x16, .f32⟩
  | .hbm, ⟨4, _⟩ => ⟨S512x16, .f32⟩
  | .hbm, ⟨5, _⟩ => ⟨S1x512x16, .f32⟩
  | .hbm, ⟨6, _⟩ => ⟨S1024, .i32⟩
  | .hbm, ⟨7, _⟩ => ⟨S1024x1, .i32⟩
  | .hbm, ⟨8, _⟩ => ⟨S_, .f32⟩
  | .hbm, ⟨9, _⟩ => ⟨S8x512x16, .f32⟩
  | .hbm, ⟨10, _⟩ => ⟨S_, .f32⟩
  | .hbm, ⟨11, _⟩ => ⟨S8x1024x512, .f32⟩
  | .hbm, ⟨12, _⟩ => ⟨S_, .i32⟩
  | .hbm, ⟨13, _⟩ => ⟨S_, .i32⟩
  | .hbm, ⟨14, _⟩ => ⟨S8x1024x512, .f32⟩
  | .hbm, ⟨15, _⟩ => ⟨S8x1024x16, .f32⟩
  | .hbm, ⟨16, _⟩ => ⟨S1x512x16, .f32⟩
  | .hbm, ⟨17, _⟩ => ⟨S8x1024x16, .f32⟩
  | .hbm, ⟨18, _⟩ => ⟨S1024x1, .i32⟩
  | .hbm, ⟨19, _⟩ => ⟨S_, .i32⟩
  | .hbm, ⟨20, _⟩ => ⟨S_, .i32⟩
  | .hbm, ⟨21, _⟩ => ⟨S8x512x16, .f32⟩
  | .hbm, ⟨22, _⟩ => ⟨S8x512x16, .f32⟩
  | .hbm, ⟨23, _⟩ => ⟨S8x1024x512, .f32⟩
  | .hbm, ⟨24, _⟩ => ⟨S_, .i32⟩
  | .hbm, ⟨25, _⟩ => ⟨S_, .i1⟩
  | .hbm, ⟨26, _⟩ => ⟨S_, .i32⟩
  | .hbm, ⟨27, _⟩ => ⟨S_, .i32⟩
  | .hbm, ⟨28, _⟩ => ⟨S_, .i32⟩
  | .hbm, ⟨29, _⟩ => ⟨S_, .i32⟩
  | .hbm, ⟨30, _⟩ => ⟨S8x1x512, .f32⟩
  | .hbm, ⟨31, _⟩ => ⟨S8x512, .f32⟩
  | .hbm, ⟨32, _⟩ => ⟨S8x512x1, .f32⟩
  | .hbm, ⟨33, _⟩ => ⟨S_, .i32⟩
  | .hbm, ⟨34, _⟩ => ⟨S_, .i32⟩
  | .hbm, ⟨35, _⟩ => ⟨S8x1x16, .f32⟩
  | .hbm, ⟨36, _⟩ => ⟨S8x16, .f32⟩
  | .hbm, ⟨37, _⟩ => ⟨S8x1x16, .f32⟩
  | .hbm, ⟨38, _⟩ => ⟨S8x512x16, .f32⟩
  | .hbm, ⟨39, _⟩ => ⟨S8x512x16, .f32⟩
  | .hbm, ⟨40, _⟩ => ⟨S8x512x16, .f32⟩
  | .hbm, ⟨41, _⟩ => ⟨S8x512x16, .f32⟩
  | .hbm, ⟨42, _⟩ => ⟨S8x512x16, .f32⟩
  | .hbm, ⟨43, _⟩ => ⟨S8x512x16, .f32⟩
  | .hbm, ⟨44, _⟩ => ⟨S_, .i32⟩
  | .hbm, ⟨45, _⟩ => ⟨S_, .i1⟩
  | .hbm, ⟨46, _⟩ => ⟨S_, .i32⟩
  | .hbm, ⟨47, _⟩ => ⟨S_, .f32⟩
  | .hbm, ⟨48, _⟩ => ⟨S8x512x16, .f32⟩
  | .hbm, ⟨49, _⟩ => ⟨S8x512x16, .f32⟩
  | .hbm, ⟨50, _⟩ => ⟨S8x512x16, .f32⟩
  | .hbm, ⟨51, _⟩ => ⟨S8x512x16, .f32⟩
  | .hbm, ⟨52, _⟩ => ⟨S8x512x16, .f32⟩
  | .hbm, ⟨53, _⟩ => ⟨S_, .i32⟩
  | .hbm, ⟨54, _⟩ => ⟨S_, .i1⟩
  | .hbm, ⟨55, _⟩ => ⟨S8x512x16, .f32⟩
  | .hbm, ⟨56, _⟩ => ⟨S_, .i32⟩
  | .hbm, ⟨57, _⟩ => ⟨S_, .i32⟩
  | .hbm, ⟨58, _⟩ => ⟨S8x1x16, .f32⟩
  | .hbm, ⟨59, _⟩ => ⟨S8x16, .f32⟩
  | .hbm, ⟨60, _⟩ => ⟨S8x1x16, .f32⟩
  | .hbm, ⟨61, _⟩ => ⟨S8x512x16, .f32⟩
  | .hbm, ⟨62, _⟩ => ⟨S8x512x16, .f32⟩
  | .hbm, ⟨63, _⟩ => ⟨S_, .f32⟩
  | .hbm, ⟨64, _⟩ => ⟨S8x512, .f32⟩
  | .hbm, ⟨65, _⟩ => ⟨S_, .i32⟩
  | .hbm, ⟨66, _⟩ => ⟨S1024x1, .i32⟩
  | .hbm, ⟨67, _⟩ => ⟨S1024x1, .i1⟩
  | .hbm, ⟨68, _⟩ => ⟨S8x1x512, .f32⟩
  | .hbm, ⟨69, _⟩ => ⟨S8x1024x512, .i1⟩
  | .hbm, ⟨70, _⟩ => ⟨S8x1024x512, .f32⟩
  | .hbm, ⟨71, _⟩ => ⟨S8x1024x512, .f32⟩
  | .hbm, ⟨72, _⟩ => ⟨S_, .i32⟩
  | .hbm, ⟨73, _⟩ => ⟨S_, .i32⟩
  | _, _ => ⟨S8x1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_c : Ref sig .tc := ⟨.hbm, 12, rfl⟩
abbrev main_c_1 : Ref sig .tc := ⟨.hbm, 13, rfl⟩
abbrev main_v6_0 : Ref sig .tc := ⟨.hbm, 14, rfl⟩
abbrev main_v6_1 : Ref sig .tc := ⟨.hbm, 15, rfl⟩
abbrev main_v6_2 : Ref sig .tc := ⟨.hbm, 16, rfl⟩
abbrev main_v6_3 : Ref sig .tc := ⟨.hbm, 17, rfl⟩
abbrev main_v6_4 : Ref sig .tc := ⟨.hbm, 18, rfl⟩
abbrev main_v6_5 : Ref sig .tc := ⟨.hbm, 19, rfl⟩
abbrev main_v6_6 : Ref sig .tc := ⟨.hbm, 20, rfl⟩
abbrev main_v6_7 : Ref sig .tc := ⟨.hbm, 21, rfl⟩
abbrev main_v6_8 : Ref sig .tc := ⟨.hbm, 22, rfl⟩
abbrev main_v6_9 : Ref sig .tc := ⟨.hbm, 23, rfl⟩
abbrev main_while0c_c_11 : Ref sig .tc := ⟨.hbm, 24, rfl⟩
abbrev main_while0c_v7 : Ref sig .tc := ⟨.hbm, 25, rfl⟩
abbrev main_while0b_c_11 : Ref sig .tc := ⟨.hbm, 26, rfl⟩
abbrev main_while0b_v7 : Ref sig .tc := ⟨.hbm, 27, rfl⟩
abbrev main_while0b_call0_c : Ref sig .tc := ⟨.hbm, 28, rfl⟩
abbrev main_while0b_call0_c_0 : Ref sig .tc := ⟨.hbm, 29, rfl⟩
abbrev main_while0b_call0_v0 : Ref sig .tc := ⟨.hbm, 30, rfl⟩
abbrev main_while0b_v8 : Ref sig .tc := ⟨.hbm, 31, rfl⟩
abbrev main_while0b_v9 : Ref sig .tc := ⟨.hbm, 32, rfl⟩
abbrev main_while0b_call1_c : Ref sig .tc := ⟨.hbm, 33, rfl⟩
abbrev main_while0b_call1_c_0 : Ref sig .tc := ⟨.hbm, 34, rfl⟩
abbrev main_while0b_call1_v0 : Ref sig .tc := ⟨.hbm, 35, rfl⟩
abbrev main_while0b_v10 : Ref sig .tc := ⟨.hbm, 36, rfl⟩
abbrev main_while0b_v11 : Ref sig .tc := ⟨.hbm, 37, rfl⟩
abbrev main_while0b_v12 : Ref sig .tc := ⟨.hbm, 38, rfl⟩
abbrev main_while0b_v13 : Ref sig .tc := ⟨.hbm, 39, rfl⟩
abbrev main_while0b_v14 : Ref sig .tc := ⟨.hbm, 40, rfl⟩
abbrev main_while0b_v15 : Ref sig .tc := ⟨.hbm, 41, rfl⟩
abbrev main_while0b_v16 : Ref sig .tc := ⟨.hbm, 42, rfl⟩
abbrev main_while0b_v17 : Ref sig .tc := ⟨.hbm, 43, rfl⟩
abbrev main_while0b_c_12 : Ref sig .tc := ⟨.hbm, 44, rfl⟩
abbrev main_while0b_v18 : Ref sig .tc := ⟨.hbm, 45, rfl⟩
abbrev main_while0b_c_13 : Ref sig .tc := ⟨.hbm, 46, rfl⟩
abbrev main_while0b_call2_v0 : Ref sig .tc := ⟨.hbm, 47, rfl⟩
abbrev main_while0b_call2_v1 : Ref sig .tc := ⟨.hbm, 48, rfl⟩
abbrev main_while0b_v19 : Ref sig .tc := ⟨.hbm, 49, rfl⟩
abbrev main_while0b_v20 : Ref sig .tc := ⟨.hbm, 50, rfl⟩
abbrev main_while0b_v21 : Ref sig .tc := ⟨.hbm, 51, rfl⟩
abbrev main_while0b_v22 : Ref sig .tc := ⟨.hbm, 52, rfl⟩
abbrev main_while0b_c_14 : Ref sig .tc := ⟨.hbm, 53, rfl⟩
abbrev main_while0b_v23 : Ref sig .tc := ⟨.hbm, 54, rfl⟩
abbrev main_while0b_v24 : Ref sig .tc := ⟨.hbm, 55, rfl⟩
abbrev main_while0b_call4_c : Ref sig .tc := ⟨.hbm, 56, rfl⟩
abbrev main_while0b_call4_c_0 : Ref sig .tc := ⟨.hbm, 57, rfl⟩
abbrev main_while0b_call4_v0 : Ref sig .tc := ⟨.hbm, 58, rfl⟩
abbrev main_while0b_v25 : Ref sig .tc := ⟨.hbm, 59, rfl⟩
abbrev main_while0b_v26 : Ref sig .tc := ⟨.hbm, 60, rfl⟩
abbrev main_while0b_v27 : Ref sig .tc := ⟨.hbm, 61, rfl⟩
abbrev main_while0b_v28 : Ref sig .tc := ⟨.hbm, 62, rfl⟩
abbrev main_while0b_cst_15 : Ref sig .tc := ⟨.hbm, 63, rfl⟩
abbrev main_while0b_v29 : Ref sig .tc := ⟨.hbm, 64, rfl⟩
abbrev main_while0b_v30 : Ref sig .tc := ⟨.hbm, 65, rfl⟩
abbrev main_while0b_v31 : Ref sig .tc := ⟨.hbm, 66, rfl⟩
abbrev main_while0b_v32 : Ref sig .tc := ⟨.hbm, 67, rfl⟩
abbrev main_while0b_v33 : Ref sig .tc := ⟨.hbm, 68, rfl⟩
abbrev main_while0b_call5_v0 : Ref sig .tc := ⟨.hbm, 69, rfl⟩
abbrev main_while0b_call5_v1 : Ref sig .tc := ⟨.hbm, 70, rfl⟩
abbrev main_while0b_v34 : Ref sig .tc := ⟨.hbm, 71, rfl⟩
abbrev main_while0b_c_16 : Ref sig .tc := ⟨.hbm, 72, rfl⟩
abbrev main_while0b_v35 : Ref sig .tc := ⟨.hbm, 73, rfl⟩

abbrev nD : Nat := 1
abbrev τ : Topo := Topo.v7x

variable {F : FTy → Type} [FloatOps F]

abbrev main_while0_count : Scf.Loop 32 := ⟨0#32, 1024#32, 1#32⟩
-- ==== RecurrenceIdeal.lean ====
abbrev S8x1024x512 : Shape := ⟨3, ![8, 1024, 512]⟩
abbrev S512x16 : Shape := ⟨2, ![512, 16]⟩
abbrev S8x1024x16 : Shape := ⟨3, ![8, 1024, 16]⟩
abbrev S1x512x16 : Shape := ⟨3, ![1, 512, 16]⟩
abbrev S1024 : Shape := ⟨1, ![1024]⟩
abbrev S1024x1 : Shape := ⟨2, ![1024, 1]⟩
abbrev S_ : Shape := ⟨0, ![]⟩
abbrev S8x512x16 : Shape := ⟨3, ![8, 512, 16]⟩
abbrev S8x1x512 : Shape := ⟨3, ![8, 1, 512]⟩
abbrev S8x512 : Shape := ⟨2, ![8, 512]⟩
abbrev S8x512x1 : Shape := ⟨3, ![8, 512, 1]⟩
abbrev S8x1x16 : Shape := ⟨3, ![8, 1, 16]⟩
abbrev S8x16 : Shape := ⟨2, ![8, 16]⟩

abbrev nBuf : Space → Nat
  | .hbm => 61
  | .vmem => 0
  | .smem => 0
  | _ => 0

abbrev bufTy : (tb : Table) → Fin (tcTables nBuf tb) → BufTy
  | .hbm, ⟨0, _⟩ => ⟨S8x1024x512, .f32⟩
  | .hbm, ⟨1, _⟩ => ⟨S512x16, .f32⟩
  | .hbm, ⟨2, _⟩ => ⟨S8x1024x16, .f32⟩
  | .hbm, ⟨3, _⟩ => ⟨S8x1024x16, .f32⟩
  | .hbm, ⟨4, _⟩ => ⟨S512x16, .f32⟩
  | .hbm, ⟨5, _⟩ => ⟨S1x512x16, .f32⟩
  | .hbm, ⟨6, _⟩ => ⟨S1024, .i32⟩
  | .hbm, ⟨7, _⟩ => ⟨S1024x1, .i32⟩
  | .hbm, ⟨8, _⟩ => ⟨S_, .f32⟩
  | .hbm, ⟨9, _⟩ => ⟨S8x512x16, .f32⟩
  | .hbm, ⟨10, _⟩ => ⟨S_, .f32⟩
  | .hbm, ⟨11, _⟩ => ⟨S8x1024x512, .f32⟩
  | .hbm, ⟨12, _⟩ => ⟨S_, .i32⟩
  | .hbm, ⟨13, _⟩ => ⟨S_, .i32⟩
  | .hbm, ⟨14, _⟩ => ⟨S1x512x16, .f32⟩
  | .hbm, ⟨15, _⟩ => ⟨S8x1024x512, .f32⟩
  | .hbm, ⟨16, _⟩ => ⟨S8x1024x16, .f32⟩
  | .hbm, ⟨17, _⟩ => ⟨S8x1024x16, .f32⟩
  | .hbm, ⟨18, _⟩ => ⟨S1024x1, .i32⟩
  | .hbm, ⟨19, _⟩ => ⟨S_, .i32⟩
  | .hbm, ⟨20, _⟩ => ⟨S_, .i32⟩
  | .hbm, ⟨21, _⟩ => ⟨S8x512x16, .f32⟩
  | .hbm, ⟨22, _⟩ => ⟨S8x1024x512, .f32⟩
  | .hbm, ⟨23, _⟩ => ⟨S_, .i32⟩
  | .hbm, ⟨24, _⟩ => ⟨S_, .i1⟩
  | .hbm, ⟨25, _⟩ => ⟨S_, .i32⟩
  | .hbm, ⟨26, _⟩ => ⟨S_, .i32⟩
  | .hbm, ⟨27, _⟩ => ⟨S8x512x16, .f32⟩
  | .hbm, ⟨28, _⟩ => ⟨S8x512x16, .f32⟩
  | .hbm, ⟨29, _⟩ => ⟨S_, .i32⟩
  | .hbm, ⟨30, _⟩ => ⟨S_, .i32⟩
  | .hbm, ⟨31, _⟩ => ⟨S8x1x512, .f32⟩
  | .hbm, ⟨32, _⟩ => ⟨S8x512, .f32⟩
  | .hbm, ⟨33, _⟩ => ⟨S8x512x1, .f32⟩
  | .hbm, ⟨34, _⟩ => ⟨S_, .i32⟩
  | .hbm, ⟨35, _⟩ => ⟨S_, .i32⟩
  | .hbm, ⟨36, _⟩ => ⟨S8x1x16, .f32⟩
  | .hbm, ⟨37, _⟩ => ⟨S8x16, .f32⟩
  | .hbm, ⟨38, _⟩ => ⟨S8x1x16, .f32⟩
  | .hbm, ⟨39, _⟩ => ⟨S8x512x16, .f32⟩
  | .hbm, ⟨40, _⟩ => ⟨S8x512x16, .f32⟩
  | .hbm, ⟨41, _⟩ => ⟨S8x512x16, .f32⟩
  | .hbm, ⟨42, _⟩ => ⟨S8x512x16, .f32⟩
  | .hbm, ⟨43, _⟩ => ⟨S_, .i32⟩
  | .hbm, ⟨44, _⟩ => ⟨S_, .i32⟩
  | .hbm, ⟨45, _⟩ => ⟨S8x1x16, .f32⟩
  | .hbm, ⟨46, _⟩ => ⟨S8x16, .f32⟩
  | .hbm, ⟨47, _⟩ => ⟨S8x1x16, .f32⟩
  | .hbm, ⟨48, _⟩ => ⟨S8x512x16, .f32⟩
  | .hbm, ⟨49, _⟩ => ⟨S8x512x16, .f32⟩
  | .hbm, ⟨50, _⟩ => ⟨S_, .f32⟩
  | .hbm, ⟨51, _⟩ => ⟨S8x512, .f32⟩
  | .hbm, ⟨52, _⟩ => ⟨S_, .i32⟩
  | .hbm, ⟨53, _⟩ => ⟨S1024x1, .i32⟩
  | .hbm, ⟨54, _⟩ => ⟨S1024x1, .i1⟩
  | .hbm, ⟨55, _⟩ => ⟨S8x1x512, .f32⟩
  | .hbm, ⟨56, _⟩ => ⟨S8x1024x512, .i1⟩
  | .hbm, ⟨57, _⟩ => ⟨S8x1024x512, .f32⟩
  | .hbm, ⟨58, _⟩ => ⟨S8x1024x512, .f32⟩
  | .hbm, ⟨59, _⟩ => ⟨S_, .i32⟩
  | .hbm, ⟨60, _⟩ => ⟨S_, .i32⟩
  | _, _ => ⟨S8x1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_c : Ref sig .tc := ⟨.hbm, 12, rfl⟩
abbrev main_c_1 : Ref sig .tc := ⟨.hbm, 13, rfl⟩
abbrev main_v6_0 : Ref sig .tc := ⟨.hbm, 14, rfl⟩
abbrev main_v6_1 : Ref sig .tc := ⟨.hbm, 15, rfl⟩
abbrev main_v6_2 : Ref sig .tc := ⟨.hbm, 16, rfl⟩
abbrev main_v6_3 : Ref sig .tc := ⟨.hbm, 17, rfl⟩
abbrev main_v6_4 : Ref sig .tc := ⟨.hbm, 18, rfl⟩
abbrev main_v6_5 : Ref sig .tc := ⟨.hbm, 19, rfl⟩
abbrev main_v6_6 : Ref sig .tc := ⟨.hbm, 20, rfl⟩
abbrev main_v6_7 : Ref sig .tc := ⟨.hbm, 21, rfl⟩
abbrev main_v6_8 : Ref sig .tc := ⟨.hbm, 22, rfl⟩
abbrev main_while0c_c_10 : Ref sig .tc := ⟨.hbm, 23, rfl⟩
abbrev main_while0c_v7 : Ref sig .tc := ⟨.hbm, 24, rfl⟩
abbrev main_while0b_c_10 : Ref sig .tc := ⟨.hbm, 25, rfl⟩
abbrev main_while0b_v7 : Ref sig .tc := ⟨.hbm, 26, rfl⟩
abbrev main_while0b_v8 : Ref sig .tc := ⟨.hbm, 27, rfl⟩
abbrev main_while0b_v9 : Ref sig .tc := ⟨.hbm, 28, rfl⟩
abbrev main_while0b_call0_c : Ref sig .tc := ⟨.hbm, 29, rfl⟩
abbrev main_while0b_call0_c_0 : Ref sig .tc := ⟨.hbm, 30, rfl⟩
abbrev main_while0b_call0_v0 : Ref sig .tc := ⟨.hbm, 31, rfl⟩
abbrev main_while0b_v10 : Ref sig .tc := ⟨.hbm, 32, rfl⟩
abbrev main_while0b_v11 : Ref sig .tc := ⟨.hbm, 33, rfl⟩
abbrev main_while0b_call1_c : Ref sig .tc := ⟨.hbm, 34, rfl⟩
abbrev main_while0b_call1_c_0 : Ref sig .tc := ⟨.hbm, 35, rfl⟩
abbrev main_while0b_call1_v0 : Ref sig .tc := ⟨.hbm, 36, rfl⟩
abbrev main_while0b_v12 : Ref sig .tc := ⟨.hbm, 37, rfl⟩
abbrev main_while0b_v13 : Ref sig .tc := ⟨.hbm, 38, rfl⟩
abbrev main_while0b_v14 : Ref sig .tc := ⟨.hbm, 39, rfl⟩
abbrev main_while0b_v15 : Ref sig .tc := ⟨.hbm, 40, rfl⟩
abbrev main_while0b_v16 : Ref sig .tc := ⟨.hbm, 41, rfl⟩
abbrev main_while0b_v17 : Ref sig .tc := ⟨.hbm, 42, rfl⟩
abbrev main_while0b_call2_c : Ref sig .tc := ⟨.hbm, 43, rfl⟩
abbrev main_while0b_call2_c_0 : Ref sig .tc := ⟨.hbm, 44, rfl⟩
abbrev main_while0b_call2_v0 : Ref sig .tc := ⟨.hbm, 45, rfl⟩
abbrev main_while0b_v18 : Ref sig .tc := ⟨.hbm, 46, rfl⟩
abbrev main_while0b_v19 : Ref sig .tc := ⟨.hbm, 47, rfl⟩
abbrev main_while0b_v20 : Ref sig .tc := ⟨.hbm, 48, rfl⟩
abbrev main_while0b_v21 : Ref sig .tc := ⟨.hbm, 49, rfl⟩
abbrev main_while0b_cst_11 : Ref sig .tc := ⟨.hbm, 50, rfl⟩
abbrev main_while0b_v22 : Ref sig .tc := ⟨.hbm, 51, rfl⟩
abbrev main_while0b_v23 : Ref sig .tc := ⟨.hbm, 52, rfl⟩
abbrev main_while0b_v24 : Ref sig .tc := ⟨.hbm, 53, rfl⟩
abbrev main_while0b_v25 : Ref sig .tc := ⟨.hbm, 54, rfl⟩
abbrev main_while0b_v26 : Ref sig .tc := ⟨.hbm, 55, rfl⟩
abbrev main_while0b_call3_v0 : Ref sig .tc := ⟨.hbm, 56, rfl⟩
abbrev main_while0b_call3_v1 : Ref sig .tc := ⟨.hbm, 57, rfl⟩
abbrev main_while0b_v27 : Ref sig .tc := ⟨.hbm, 58, rfl⟩
abbrev main_while0b_c_12 : Ref sig .tc := ⟨.hbm, 59, rfl⟩
abbrev main_while0b_v28 : Ref sig .tc := ⟨.hbm, 60, rfl⟩

abbrev nD : Nat := 1
abbrev τ : Topo := Topo.v7x

variable {F : FTy → Type} [FloatOps F]

abbrev main_while0_count : Scf.Loop 32 := ⟨0#32, 1024#32, 1#32⟩
-- ==== Proof.KernelIdeal.Spec.lean ====
/-
What the kernel computes, as plain functions of the blocks a device is given, for any float instance: the chunk of 64
rows a chunk of the kernel works on, one trip of its loop, the state after each chunk, the output and the correction a
receiving device adds. Only names for the payloads the kernel's own text prints; no arithmetic is done here.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic
public import Idealize.ShloMosaic.Lib.VecWindow
public import Idealize.ShloMosaic.Lib.ValueIdxCore

@[expose] public section

noncomputable section

namespace Cert.KernelIdealRun

open Cert.KernelIdeal Cert.KernelIdeal.Gen
open Idealize.ShloMosaic Idealize.ShloMosaic.ValueIdx
open Idealize.ShloMosaic.VecWindow (window put)

variable {F : FTy → Type} [FloatOps F]

/-! ## Windows of an array, without bounds -/

/-- Rows `64n` to `64n + 63` of an array of 512 rows. -/
def chunk {d : ℕ} (n : ℕ) (X : FVec F ⟨3, ![8, 512, d]⟩ .f32) : FVec F ⟨3, ![8, 64, d]⟩ .f32 :=
  fun y => X (ix3 (y 0) ⟨(64 * n + (y 1).val) % 512, Nat.mod_lt _ (by decide)⟩ (y 2))

/-- Row `k` of the scratch array. -/
def srow (k : ℕ) (U : FVec F S8x64x16x512 .f32) : FVec F S8x1x16x512 .f32 :=
  fun y => U (ix4 (y 0) ⟨(k + (y 1).val) % 64, Nat.mod_lt _ (by decide)⟩ (y 2) (y 3))

/-- Batch entry `b`, rows 0 to `r - 1`. -/
def batch {n d : ℕ} (r b : ℕ) (hn : 0 < n) (X : FVec F ⟨3, ![8, n, d]⟩ .f32) : FVec F ⟨3, ![1, r, d]⟩ .f32 :=
  fun y => X (ix3 ⟨(b + (y 0).val) % 8, Nat.mod_lt _ (by decide)⟩ ⟨(y 1).val % n, Nat.mod_lt _ hn⟩ (y 2))

/-! ## One chunk -/

/-- One trip of a chunk's loop: the state from row `k` of the scratch array, which then holds the state. -/
def trip (dA : FVec F S16x512 .f32) (k : ℕ) (s : FVec F S8x16x512 .f32 × FVec F S8x64x16x512 .f32) :
    FVec F S8x16x512 .f32 × FVec F S8x64x16x512 .f32 :=
  (k0_pay17 dA s.1 (srow k s.2), put s.2 ![0, k, 0, 0] ![8, 1, 16, 512] (k0_pay18 dA s.1 (srow k s.2)))

/-- The first `k` trips. -/
def trips (dA : FVec F S16x512 .f32) (s : FVec F S8x16x512 .f32 × FVec F S8x64x16x512 .f32) :
    ℕ → FVec F S8x16x512 .f32 × FVec F S8x64x16x512 .f32
  | 0 => s
  | k + 1 => trip dA k (trips dA s k)

/-- The inputs of chunk `n`: `x` times `B`. -/
def inp (X : FVec F S8x512x512 .f32) (B : FVec F S8x512x16 .f32) (n : ℕ) : FVec F S8x64x16x512 .f32 :=
  k0_pay16 (chunk n X) (chunk n B)

/-- The state before chunk `n`. -/
def state (X : FVec F S8x512x512 .f32) (A : FVec F S512x16 .f32) (B : FVec F S8x512x16 .f32) : ℕ → FVec F S8x16x512 .f32
  | 0 => k0_pay15
  | n + 1 => (trips (k0_pay14 A) (state X A B n, inp X B n) 64).1

/-- The scratch array after chunk `n`: the states at the chunk's rows. -/
def states (X : FVec F S8x512x512 .f32) (A : FVec F S512x16 .f32) (B : FVec F S8x512x16 .f32) (n : ℕ) : FVec F S8x64x16x512 .f32 :=
  (trips (k0_pay14 A) (state X A B n, inp X B n) 64).2

/-- The output rows of chunk `n`. -/
def outRows (X : FVec F S8x512x512 .f32) (A : FVec F S512x16 .f32) (B C : FVec F S8x512x16 .f32) (n : ℕ) : FVec F S8x64x512 .f32 :=
  k0_pay19 (chunk n C) (states X A B n)

/-- The output block after `n` chunks, over what it held. -/
def outAfter (X : FVec F S8x512x512 .f32) (A : FVec F S512x16 .f32) (B C : FVec F S8x512x16 .f32) (O : FVec F S8x512x512 .f32) :
    ℕ → FVec F S8x512x512 .f32
  | 0 => O
  | n + 1 => put (outAfter X A B C O n) ![0, 64 * n, 0] ![8, 64, 512] (outRows X A B C n)

/-- The state a device hands on. -/
def lastState (X : FVec F S8x512x512 .f32) (A : FVec F S512x16 .f32) (B : FVec F S8x512x16 .f32) : FVec F S8x16x512 .f32 :=
  k0_pay2 (state X A B 8)

/-! ## The correction -/

/-- The output block after the first `b` batch entries have been corrected by the state `H` that came in. -/
def corrected (A : FVec F S512x16 .f32) (C : FVec F S8x512x16 .f32) (H : FVec F S8x16x512 .f32) (O : FVec F S8x512x512 .f32) :
    ℕ → FVec F S8x512x512 .f32
  | 0 => O
  | b + 1 => put (corrected A C H O b) ![b, 0, 0] ![1, 64, 512]
      (k0_pay5 A (batch 64 b (by decide) C) (batch 16 b (by decide) H) (batch 64 b (by decide) (corrected A C H O b)))

/-! ## The printed windows are these -/

theorem window_chunk {d : ℕ} (n : ℕ) (hn : n < 8) (X : FVec F ⟨3, ![8, 512, d]⟩ .f32) (off : Fin 3 → ℕ) (hoff : off = ![0, 64 * n, 0])
    (inb : ∀ a, off a + (⟨3, ![8, 64, d]⟩ : Shape).size a ≤ (⟨3, ![8, 512, d]⟩ : Shape).size a) :
    window (s := ⟨3, ![8, 512, d]⟩) X off (⟨3, ![8, 64, d]⟩ : Shape).size inb = chunk n X := by
  subst hoff
  funext y
  have h1 : (y 1).val < 64 := (y 1).isLt
  refine congrArg X (funext fun a => Fin.ext ?_)
  match a with
  | ⟨0, _⟩ => show 0 + 1 * (y 0).val = (y 0).val; omega
  | ⟨1, _⟩ => show 64 * n + 1 * (y 1).val = (64 * n + (y 1).val) % 512; omega
  | ⟨2, _⟩ => show 0 + 1 * (y 2).val = (y 2).val; omega

theorem window_srow (k : ℕ) (hk : k < 64) (U : FVec F S8x64x16x512 .f32) (off : Fin 4 → ℕ) (hoff : off = ![0, k, 0, 0])
    (inb : ∀ a, off a + S8x1x16x512.size a ≤ S8x64x16x512.size a) :
    window (s := S8x64x16x512) U off S8x1x16x512.size inb = srow k U := by
  subst hoff
  funext y
  have h1 : (y 1).val < 1 := (y 1).isLt
  refine congrArg U (funext fun a => Fin.ext ?_)
  match a with
  | ⟨0, _⟩ => show 0 + 1 * (y 0).val = (y 0).val; omega
  | ⟨1, _⟩ => show k + 1 * (y 1).val = (k + (y 1).val) % 64; omega
  | ⟨2, _⟩ => show 0 + 1 * (y 2).val = (y 2).val; omega
  | ⟨3, _⟩ => show 0 + 1 * (y 3).val = (y 3).val; omega

theorem window_batch {n d : ℕ} (r b : ℕ) (hn : 0 < n) (hb : b < 8) (hr : r ≤ n) (X : FVec F ⟨3, ![8, n, d]⟩ .f32) (off : Fin 3 → ℕ) (hoff : off = ![b, 0, 0])
    (inb : ∀ a, off a + (⟨3, ![1, r, d]⟩ : Shape).size a ≤ (⟨3, ![8, n, d]⟩ : Shape).size a) :
    window (s := ⟨3, ![8, n, d]⟩) X off (⟨3, ![1, r, d]⟩ : Shape).size inb = batch r b hn X := by
  subst hoff
  funext y
  have h0 : (y 0).val < 1 := (y 0).isLt
  have h1 : (y 1).val < r := (y 1).isLt
  refine congrArg X (funext fun a => Fin.ext ?_)
  match a with
  | ⟨0, _⟩ => show b + 1 * (y 0).val = (b + (y 0).val) % 8; omega
  | ⟨1, _⟩ => show 0 + 1 * (y 1).val = (y 1).val % n; rw [Nat.mod_eq_of_lt (by omega)]; omega
  | ⟨2, _⟩ => show 0 + 1 * (y 2).val = (y 2).val; omega

theorem off1_eq (k : Fin k0_t1_loop.trips) : k0_off1 k = ![0, k.val, 0, 0] := by revert k; decide +kernel
theorem off2_eq (k : Fin k0_t2_loop.trips) : k0_off2 k = ![0, k.val, 0, 0] := by revert k; decide +kernel
theorem off3_eq (k : Fin k0_t3_loop.trips) : k0_off3 k = ![0, k.val, 0, 0] := by revert k; decide +kernel
theorem off4_eq (k : Fin k0_t4_loop.trips) : k0_off4 k = ![0, k.val, 0, 0] := by revert k; decide +kernel
theorem off5_eq (k : Fin k0_t5_loop.trips) : k0_off5 k = ![0, k.val, 0, 0] := by revert k; decide +kernel
theorem off6_eq (k : Fin k0_t6_loop.trips) : k0_off6 k = ![0, k.val, 0, 0] := by revert k; decide +kernel
theorem off7_eq (k : Fin k0_t7_loop.trips) : k0_off7 k = ![0, k.val, 0, 0] := by revert k; decide +kernel
theorem off8_eq (k : Fin k0_t8_loop.trips) : k0_off8 k = ![0, k.val, 0, 0] := by revert k; decide +kernel

/-- Each of the eight loops makes 64 trips. -/
theorem trips_eq : k0_t1_loop.trips = 64 := by decide +kernel

end Cert.KernelIdealRun

end
-- ==== Proof.KernelIdeal.Steps.lean ====
/-
The kernel's loads, stores and loops by the values the buffers hold: a memref held by a device, with what it reads, and
for each of the eight loops the state and the scratch array it leaves.
-/
module

public import proofs.«01_k».proof.Proof.KernelIdeal.Spec

@[expose] public section

noncomputable section

namespace Cert.KernelIdealRun

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.VecWindow (window put)

variable {F : FTy → Type} [FloatOps F]

/-! ## The resource algebra: the pipeline library's copy and the exchange's, both with one duty name -/

abbrev UB : Type := URounds (GSem nD τ sig) Unit
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-- The program waits on no condition of its own. -/
abbrev 𝒱₀ : Variants := Variants.none

/-- Device `c`'s program `p` runs to `Q`. -/
abbrev runs (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

theorem runs_bind (c : Dev nD) {α β : Type} (p : Prog (TpuEff nD τ sig (Elt F) Λ₀ .tc) β) (k : β → Prog (TpuEff nD τ sig (Elt F) Λ₀ .tc) α)
    (Q : α → sProp 𝕄) : runs c (p >>= k) Q = runs c p (fun a => runs c (k a) Q) := by
  unfold runs; rw [wp_bind]

/-! ## A memref held, with what it reads -/

/-- Device `c` holds the whole buffer `m` lies in, and `m` reads `X`. -/
def Holds (c : Dev nD) {cs : Space} {s : Shape} {e : EltTy} (m : Memref sig .tc cs s e) (X : s.Idx → Elt F e) : sProp 𝕄 :=
  iprop(∃ f : Buf (Elt F) (m.view.loc (c : Thread nD τ)), ⌜m.view.read (Elt F) f = X⌝ ∗ (m.view.loc (c : Thread nD τ)) ↦{fullShare} f)

theorem holds_load {c : Dev nD} {cs : CoreSpace} {s : Shape} {e : EltTy} {m : Memref sig .tc cs s e} {X : s.Idx → Elt F e}
    {off size : Fin s.rank → ℕ} {inb : ∀ a, off a + size a ≤ s.size a} {hl : m.view.LoadsAt (Rect.unit off size inb).toLoadRect} {α : Type}
    {k : ((Rect.unit off size inb).toLoadRect.shape.Idx → Elt F e) → Prog (TpuEff nD τ sig (Elt F) Λ₀ .tc) α} {Q : α → sProp 𝕄}
    (Y : (Rect.unit off size inb).shape.Idx → Elt F e) (h : window X off size inb = Y) :
    Holds c m X ⊢ iprop((Holds c m X -∗ runs c (k Y) Q) -∗ runs c (.op (.load m (Rect.unit off size inb).toLoadRect hl) k) Q) := by
  unfold Holds
  iintro ⟨%f, %hf, Hf⟩ HK
  iapply (wp_load 𝒱₀ (c : Thread nD τ) none Set.univ (m := m) (Finset.subset_univ _)) $$ Hf
  iintro Hf
  have e1 : m.view.readAt (Elt F) (Rect.unit off size inb).toLoadRect f = Y := by
    rw [View.readAt_unit m.view f inb rfl inb, hf]; exact h
  rw [e1]
  iapply HK
  iexists f
  isplitr; · ipureintro; exact hf
  iexact Hf

theorem holds_store {c : Dev nD} {cs : CoreSpace} {s : Shape} {e : EltTy} {m : Memref sig .tc cs s e} {X : s.Idx → Elt F e}
    {off size : Fin s.rank → ℕ} {inb : ∀ a, off a + size a ≤ s.size a} {w : (Rect.unit off size inb).shape.Idx → Elt F e}
    {hx : (m.access (Rect.unit off size inb)).Stores Finset.univ}
    {hm : (Finset.univ : Finset (Rect.unit off size inb).shape.Idx) = Finset.univ ∨ ∀ a, (Rect.unit off size inb).stride a = 1} {α : Type}
    {k : PUnit → Prog (TpuEff nD τ sig (Elt F) Λ₀ .tc) α} {Q : α → sProp 𝕄}
    (Y : s.Idx → Elt F e) (h : put X off size w = Y) :
    Holds c m X ⊢ iprop((Holds c m Y -∗ runs c (k ⟨⟩) Q) -∗ runs c (.op (.store m (Rect.unit off size inb) w Finset.univ hx hm) k) Q) := by
  unfold Holds
  iintro ⟨%f, %hf, Hf⟩ HK
  iapply (wp_store 𝒱₀ (c : Thread nD τ) none Set.univ (m := m) (r := Rect.unit off size inb) (Mk := Finset.univ) (Finset.subset_univ _)) $$ Hf
  iintro Hf
  iapply HK
  iexists ((m.access (Rect.unit off size inb)).write (Elt F) f w Finset.univ)
  isplitr
  · ipureintro
    have := View.read_writes_cons_put (Val := Elt F) m.view f inb w [] rfl
    rw [View.writes_nil, hf, h] at this
    exact this
  iexact Hf

/-- A window of the array's own sizes is the array. -/
theorem window_full {s : Shape} {α : Type} (X : s.Idx → α) (off : Fin s.rank → ℕ) (inb : ∀ a, off a + s.size a ≤ s.size a) :
    window X off s.size inb = X :=
  funext fun y => congrArg X (funext fun a => Fin.ext (by
    show off a + 1 * (y a).val = (y a).val
    have := inb a; omega))

/-- A put of the array's own sizes is what is put. -/
theorem put_full {s : Shape} {α : Type} (X : s.Idx → α) (off : Fin s.rank → ℕ) (inb : ∀ a, off a + s.size a ≤ s.size a) (w : s.Idx → α) :
    put X off s.size w = w := by
  have := VecWindow.window_put_same X off s.size inb w
  rwa [window_full] at this

/-! ## The loops -/

section Loops

variable (c : Dev nD)
variable (arg0 : Memref sig .tc .vmem S8x512x512 .f32) (harg0 : arg0.IsWhole) (arg1 : Memref sig .tc .vmem S512x16 .f32) (harg1 : arg1.IsWhole)
  (arg2 : Memref sig .tc .vmem S8x512x16 .f32) (harg2 : arg2.IsWhole) (arg3 : Memref sig .tc .vmem S8x512x16 .f32) (harg3 : arg3.IsWhole)
  (arg4 : Memref sig .tc .vmem S8x512x512 .f32) (harg4 : arg4.IsWhole) (arg5 : Memref sig .tc .vmem S8x16x512 .f32) (harg5 : arg5.IsWhole)
  (arg6 : Memref sig .tc .vmem S8x16x512 .f32) (harg6 : arg6.IsWhole) (arg7 : Memref sig .tc .vmem S8x64x16x512 .f32) (harg7 : arg7.IsWhole)
  (arg8 : DmaSems sig S_) (arg9 : DmaSems sig S_)

/-- The state and the scratch array after `k` trips. -/
def inv (dA : FVec F S16x512 .f32) (s : FVec F S8x16x512 .f32 × FVec F S8x64x16x512 .f32) (k : ℕ) (acc : FVec F S8x16x512 .f32) : sProp 𝕄 :=
  iprop(⌜acc = (trips dA s k).1⌝ ∗ Holds c arg7 (trips dA s k).2)

theorem trip1 (v15 : FVec F S16x512 .f32) (v16 : FVec F S8x16x512 .f32) (c0_i32_18 : BitVec 32) (s : FVec F S8x16x512 .f32 × FVec F S8x64x16x512 .f32) (k : Fin k0_t1_loop.trips) (acc : FVec F S8x16x512 .f32) :
    inv c arg7 v15 s k.val acc ⊢ runs c (k0_t1_body arg0 harg0 arg1 harg1 arg2 harg2 arg3 harg3 arg4 harg4 arg5 harg5 arg6 harg6 arg7 harg7 arg8 arg9 v15 v16 c0_i32_18 k acc) (inv c arg7 v15 s (k.val + 1)) := by
  have hk : k.val < 64 := k.isLt.trans_eq trips_eq
  unfold inv
  iintro ⟨%ha, Hu⟩
  subst ha
  unfold k0_t1_body
  simp only [Prog.lift, Prog.bind_op, Prog.bind_ret, Prog.pure_eq_ret]
  iapply (holds_load (srow k.val (trips v15 s k.val).2) (window_srow k.val hk _ _ (off1_eq k) _)) $$ Hu
  iintro Hu
  iapply (holds_load (srow k.val (trips v15 s k.val).2) (window_srow k.val hk _ _ (off1_eq k) _)) $$ Hu
  iintro Hu
  iapply (holds_store (trips v15 s (k.val + 1)).2 (by rw [off1_eq k]; rfl)) $$ Hu
  iintro Hu
  iapply le_wp_ret
  isplitr; · ipureintro; rfl
  iexact Hu

theorem loop1 (v15 : FVec F S16x512 .f32) (v16 : FVec F S8x16x512 .f32) (c0_i32_18 : BitVec 32) (init : FVec F S8x16x512 .f32) (U : FVec F S8x64x16x512 .f32) {α : Type}
    {kk : FVec F S8x16x512 .f32 → Prog (TpuEff nD τ sig (Elt F) Λ₀ .tc) α} {Q : α → sProp 𝕄} :
    Holds c arg7 U ⊢ iprop((Holds c arg7 (trips v15 (init, U) 64).2 -∗ runs c (kk (trips v15 (init, U) 64).1) Q)
      -∗ runs c (Scf.Loop.for k0_t1_loop k0_t1_ok init (k0_t1_body arg0 harg0 arg1 harg1 arg2 harg2 arg3 harg3 arg4 harg4 arg5 harg5 arg6 harg6 arg7 harg7 arg8 arg9 v15 v16 c0_i32_18) >>= kk) Q) := by
  iintro Hu HK
  iapply (Scf.wp_for_bind frame _ Set.univ _ _ _ k0_t1_ok init _ (inv c arg7 v15 (init, U))
    (trip1 c arg0 harg0 arg1 harg1 arg2 harg2 arg3 harg3 arg4 harg4 arg5 harg5 arg6 harg6 arg7 harg7 arg8 arg9 v15 v16 c0_i32_18 (init, U))) $$ [Hu]
  · unfold inv
    isplitr; · ipureintro; rfl
    iexact Hu
  iintro %acc HI
  rw [show Scf.trips k0_t1_loop.lb k0_t1_loop.ub k0_t1_loop.st = 64 from trips_eq]
  unfold inv
  icases HI with ⟨%ha, Hu⟩
  subst ha
  iapply HK $$ Hu

theorem trip2 (v15 : FVec F S16x512 .f32) (v16 : FVec F S8x16x512 .f32) (c0_i32_18 : BitVec 32) (s : FVec F S8x16x512 .f32 × FVec F S8x64x16x512 .f32) (k : Fin k0_t2_loop.trips) (acc : FVec F S8x16x512 .f32) :
    inv c arg7 v15 s k.val acc ⊢ runs c (k0_t2_body arg0 harg0 arg1 harg1 arg2 harg2 arg3 harg3 arg4 harg4 arg5 harg5 arg6 harg6 arg7 harg7 arg8 arg9 v15 v16 c0_i32_18 k acc) (inv c arg7 v15 s (k.val + 1)) := by
  have hk : k.val < 64 := k.isLt.trans_eq trips_eq
  unfold inv
  iintro ⟨%ha, Hu⟩
  subst ha
  unfold k0_t2_body
  simp only [Prog.lift, Prog.bind_op, Prog.bind_ret, Prog.pure_eq_ret]
  iapply (holds_load (srow k.val (trips v15 s k.val).2) (window_srow k.val hk _ _ (off2_eq k) _)) $$ Hu
  iintro Hu
  iapply (holds_load (srow k.val (trips v15 s k.val).2) (window_srow k.val hk _ _ (off2_eq k) _)) $$ Hu
  iintro Hu
  iapply (holds_store (trips v15 s (k.val + 1)).2 (by rw [off2_eq k]; rfl)) $$ Hu
  iintro Hu
  iapply le_wp_ret
  isplitr; · ipureintro; rfl
  iexact Hu

theorem loop2 (v15 : FVec F S16x512 .f32) (v16 : FVec F S8x16x512 .f32) (c0_i32_18 : BitVec 32) (init : FVec F S8x16x512 .f32) (U : FVec F S8x64x16x512 .f32) {α : Type}
    {kk : FVec F S8x16x512 .f32 → Prog (TpuEff nD τ sig (Elt F) Λ₀ .tc) α} {Q : α → sProp 𝕄} :
    Holds c arg7 U ⊢ iprop((Holds c arg7 (trips v15 (init, U) 64).2 -∗ runs c (kk (trips v15 (init, U) 64).1) Q)
      -∗ runs c (Scf.Loop.for k0_t2_loop k0_t2_ok init (k0_t2_body arg0 harg0 arg1 harg1 arg2 harg2 arg3 harg3 arg4 harg4 arg5 harg5 arg6 harg6 arg7 harg7 arg8 arg9 v15 v16 c0_i32_18) >>= kk) Q) := by
  iintro Hu HK
  iapply (Scf.wp_for_bind frame _ Set.univ _ _ _ k0_t2_ok init _ (inv c arg7 v15 (init, U))
    (trip2 c arg0 harg0 arg1 harg1 arg2 harg2 arg3 harg3 arg4 harg4 arg5 harg5 arg6 harg6 arg7 harg7 arg8 arg9 v15 v16 c0_i32_18 (init, U))) $$ [Hu]
  · unfold inv
    isplitr; · ipureintro; rfl
    iexact Hu
  iintro %acc HI
  rw [show Scf.trips k0_t2_loop.lb k0_t2_loop.ub k0_t2_loop.st = 64 from trips_eq]
  unfold inv
  icases HI with ⟨%ha, Hu⟩
  subst ha
  iapply HK $$ Hu

theorem trip3 (v15 : FVec F S16x512 .f32) (v52 : FVec F S8x16x512 .f32) (v54 : FVec F S8x64x16 .f32) (s : FVec F S8x16x512 .f32 × FVec F S8x64x16x512 .f32) (k : Fin k0_t3_loop.trips) (acc : FVec F S8x16x512 .f32) :
    inv c arg7 v15 s k.val acc ⊢ runs c (k0_t3_body arg0 harg0 arg1 harg1 arg2 harg2 arg3 harg3 arg4 harg4 arg5 harg5 arg6 harg6 arg7 harg7 arg8 arg9 v15 v52 v54 k acc) (inv c arg7 v15 s (k.val + 1)) := by
  have hk : k.val < 64 := k.isLt.trans_eq trips_eq
  unfold inv
  iintro ⟨%ha, Hu⟩
  subst ha
  unfold k0_t3_body
  simp only [Prog.lift, Prog.bind_op, Prog.bind_ret, Prog.pure_eq_ret]
  iapply (holds_load (srow k.val (trips v15 s k.val).2) (window_srow k.val hk _ _ (off3_eq k) _)) $$ Hu
  iintro Hu
  iapply (holds_load (srow k.val (trips v15 s k.val).2) (window_srow k.val hk _ _ (off3_eq k) _)) $$ Hu
  iintro Hu
  iapply (holds_store (trips v15 s (k.val + 1)).2 (by rw [off3_eq k]; rfl)) $$ Hu
  iintro Hu
  iapply le_wp_ret
  isplitr; · ipureintro; rfl
  iexact Hu

theorem loop3 (v15 : FVec F S16x512 .f32) (v52 : FVec F S8x16x512 .f32) (v54 : FVec F S8x64x16 .f32) (init : FVec F S8x16x512 .f32) (U : FVec F S8x64x16x512 .f32) {α : Type}
    {kk : FVec F S8x16x512 .f32 → Prog (TpuEff nD τ sig (Elt F) Λ₀ .tc) α} {Q : α → sProp 𝕄} :
    Holds c arg7 U ⊢ iprop((Holds c arg7 (trips v15 (init, U) 64).2 -∗ runs c (kk (trips v15 (init, U) 64).1) Q)
      -∗ runs c (Scf.Loop.for k0_t3_loop k0_t3_ok init (k0_t3_body arg0 harg0 arg1 harg1 arg2 harg2 arg3 harg3 arg4 harg4 arg5 harg5 arg6 harg6 arg7 harg7 arg8 arg9 v15 v52 v54) >>= kk) Q) := by
  iintro Hu HK
  iapply (Scf.wp_for_bind frame _ Set.univ _ _ _ k0_t3_ok init _ (inv c arg7 v15 (init, U))
    (trip3 c arg0 harg0 arg1 harg1 arg2 harg2 arg3 harg3 arg4 harg4 arg5 harg5 arg6 harg6 arg7 harg7 arg8 arg9 v15 v52 v54 (init, U))) $$ [Hu]
  · unfold inv
    isplitr; · ipureintro; rfl
    iexact Hu
  iintro %acc HI
  rw [show Scf.trips k0_t3_loop.lb k0_t3_loop.ub k0_t3_loop.st = 64 from trips_eq]
  unfold inv
  icases HI with ⟨%ha, Hu⟩
  subst ha
  iapply HK $$ Hu

theorem trip4 (v15 : FVec F S16x512 .f32) (v74 : FVec F S8x16x512 .f32) (v81 : FVec F S8x64x512 .f32) (s : FVec F S8x16x512 .f32 × FVec F S8x64x16x512 .f32) (k : Fin k0_t4_loop.trips) (acc : FVec F S8x16x512 .f32) :
    inv c arg7 v15 s k.val acc ⊢ runs c (k0_t4_body arg0 harg0 arg1 harg1 arg2 harg2 arg3 harg3 arg4 harg4 arg5 harg5 arg6 harg6 arg7 harg7 arg8 arg9 v15 v74 v81 k acc) (inv c arg7 v15 s (k.val + 1)) := by
  have hk : k.val < 64 := k.isLt.trans_eq trips_eq
  unfold inv
  iintro ⟨%ha, Hu⟩
  subst ha
  unfold k0_t4_body
  simp only [Prog.lift, Prog.bind_op, Prog.bind_ret, Prog.pure_eq_ret]
  iapply (holds_load (srow k.val (trips v15 s k.val).2) (window_srow k.val hk _ _ (off4_eq k) _)) $$ Hu
  iintro Hu
  iapply (holds_load (srow k.val (trips v15 s k.val).2) (window_srow k.val hk _ _ (off4_eq k) _)) $$ Hu
  iintro Hu
  iapply (holds_store (trips v15 s (k.val + 1)).2 (by rw [off4_eq k]; rfl)) $$ Hu
  iintro Hu
  iapply le_wp_ret
  isplitr; · ipureintro; rfl
  iexact Hu

theorem loop4 (v15 : FVec F S16x512 .f32) (v74 : FVec F S8x16x512 .f32) (v81 : FVec F S8x64x512 .f32) (init : FVec F S8x16x512 .f32) (U : FVec F S8x64x16x512 .f32) {α : Type}
    {kk : FVec F S8x16x512 .f32 → Prog (TpuEff nD τ sig (Elt F) Λ₀ .tc) α} {Q : α → sProp 𝕄} :
    Holds c arg7 U ⊢ iprop((Holds c arg7 (trips v15 (init, U) 64).2 -∗ runs c (kk (trips v15 (init, U) 64).1) Q)
      -∗ runs c (Scf.Loop.for k0_t4_loop k0_t4_ok init (k0_t4_body arg0 harg0 arg1 harg1 arg2 harg2 arg3 harg3 arg4 harg4 arg5 harg5 arg6 harg6 arg7 harg7 arg8 arg9 v15 v74 v81) >>= kk) Q) := by
  iintro Hu HK
  iapply (Scf.wp_for_bind frame _ Set.univ _ _ _ k0_t4_ok init _ (inv c arg7 v15 (init, U))
    (trip4 c arg0 harg0 arg1 harg1 arg2 harg2 arg3 harg3 arg4 harg4 arg5 harg5 arg6 harg6 arg7 harg7 arg8 arg9 v15 v74 v81 (init, U))) $$ [Hu]
  · unfold inv
    isplitr; · ipureintro; rfl
    iexact Hu
  iintro %acc HI
  rw [show Scf.trips k0_t4_loop.lb k0_t4_loop.ub k0_t4_loop.st = 64 from trips_eq]
  unfold inv
  icases HI with ⟨%ha, Hu⟩
  subst ha
  iapply HK $$ Hu

theorem trip5 (v15 : FVec F S16x512 .f32) (v96 : FVec F S8x16x512 .f32) (v106 : FVec F S8x64x512 .f32) (v108 : FVec F S8x64x16 .f32) (s : FVec F S8x16x512 .f32 × FVec F S8x64x16x512 .f32) (k : Fin k0_t5_loop.trips) (acc : FVec F S8x16x512 .f32) :
    inv c arg7 v15 s k.val acc ⊢ runs c (k0_t5_body arg0 harg0 arg1 harg1 arg2 harg2 arg3 harg3 arg4 harg4 arg5 harg5 arg6 harg6 arg7 harg7 arg8 arg9 v15 v96 v106 v108 k acc) (inv c arg7 v15 s (k.val + 1)) := by
  have hk : k.val < 64 := k.isLt.trans_eq trips_eq
  unfold inv
  iintro ⟨%ha, Hu⟩
  subst ha
  unfold k0_t5_body
  simp only [Prog.lift, Prog.bind_op, Prog.bind_ret, Prog.pure_eq_ret]
  iapply (holds_load (srow k.val (trips v15 s k.val).2) (window_srow k.val hk _ _ (off5_eq k) _)) $$ Hu
  iintro Hu
  iapply (holds_load (srow k.val (trips v15 s k.val).2) (window_srow k.val hk _ _ (off5_eq k) _)) $$ Hu
  iintro Hu
  iapply (holds_store (trips v15 s (k.val + 1)).2 (by rw [off5_eq k]; rfl)) $$ Hu
  iintro Hu
  iapply le_wp_ret
  isplitr; · ipureintro; rfl
  iexact Hu

theorem loop5 (v15 : FVec F S16x512 .f32) (v96 : FVec F S8x16x512 .f32) (v106 : FVec F S8x64x512 .f32) (v108 : FVec F S8x64x16 .f32) (init : FVec F S8x16x512 .f32) (U : FVec F S8x64x16x512 .f32) {α : Type}
    {kk : FVec F S8x16x512 .f32 → Prog (TpuEff nD τ sig (Elt F) Λ₀ .tc) α} {Q : α → sProp 𝕄} :
    Holds c arg7 U ⊢ iprop((Holds c arg7 (trips v15 (init, U) 64).2 -∗ runs c (kk (trips v15 (init, U) 64).1) Q)
      -∗ runs c (Scf.Loop.for k0_t5_loop k0_t5_ok init (k0_t5_body arg0 harg0 arg1 harg1 arg2 harg2 arg3 harg3 arg4 harg4 arg5 harg5 arg6 harg6 arg7 harg7 arg8 arg9 v15 v96 v106 v108) >>= kk) Q) := by
  iintro Hu HK
  iapply (Scf.wp_for_bind frame _ Set.univ _ _ _ k0_t5_ok init _ (inv c arg7 v15 (init, U))
    (trip5 c arg0 harg0 arg1 harg1 arg2 harg2 arg3 harg3 arg4 harg4 arg5 harg5 arg6 harg6 arg7 harg7 arg8 arg9 v15 v96 v106 v108 (init, U))) $$ [Hu]
  · unfold inv
    isplitr; · ipureintro; rfl
    iexact Hu
  iintro %acc HI
  rw [show Scf.trips k0_t5_loop.lb k0_t5_loop.ub k0_t5_loop.st = 64 from trips_eq]
  unfold inv
  icases HI with ⟨%ha, Hu⟩
  subst ha
  iapply HK $$ Hu

theorem trip6 (v15 : FVec F S16x512 .f32) (v118 : FVec F S8x16x512 .f32) (v135 : FVec F S8x64x16x512 .f32) (s : FVec F S8x16x512 .f32 × FVec F S8x64x16x512 .f32) (k : Fin k0_t6_loop.trips) (acc : FVec F S8x16x512 .f32) :
    inv c arg7 v15 s k.val acc ⊢ runs c (k0_t6_body arg0 harg0 arg1 harg1 arg2 harg2 arg3 harg3 arg4 harg4 arg5 harg5 arg6 harg6 arg7 harg7 arg8 arg9 v15 v118 v135 k acc) (inv c arg7 v15 s (k.val + 1)) := by
  have hk : k.val < 64 := k.isLt.trans_eq trips_eq
  unfold inv
  iintro ⟨%ha, Hu⟩
  subst ha
  unfold k0_t6_body
  simp only [Prog.lift, Prog.bind_op, Prog.bind_ret, Prog.pure_eq_ret]
  iapply (holds_load (srow k.val (trips v15 s k.val).2) (window_srow k.val hk _ _ (off6_eq k) _)) $$ Hu
  iintro Hu
  iapply (holds_load (srow k.val (trips v15 s k.val).2) (window_srow k.val hk _ _ (off6_eq k) _)) $$ Hu
  iintro Hu
  iapply (holds_store (trips v15 s (k.val + 1)).2 (by rw [off6_eq k]; rfl)) $$ Hu
  iintro Hu
  iapply le_wp_ret
  isplitr; · ipureintro; rfl
  iexact Hu

theorem loop6 (v15 : FVec F S16x512 .f32) (v118 : FVec F S8x16x512 .f32) (v135 : FVec F S8x64x16x512 .f32) (init : FVec F S8x16x512 .f32) (U : FVec F S8x64x16x512 .f32) {α : Type}
    {kk : FVec F S8x16x512 .f32 → Prog (TpuEff nD τ sig (Elt F) Λ₀ .tc) α} {Q : α → sProp 𝕄} :
    Holds c arg7 U ⊢ iprop((Holds c arg7 (trips v15 (init, U) 64).2 -∗ runs c (kk (trips v15 (init, U) 64).1) Q)
      -∗ runs c (Scf.Loop.for k0_t6_loop k0_t6_ok init (k0_t6_body arg0 harg0 arg1 harg1 arg2 harg2 arg3 harg3 arg4 harg4 arg5 harg5 arg6 harg6 arg7 harg7 arg8 arg9 v15 v118 v135) >>= kk) Q) := by
  iintro Hu HK
  iapply (Scf.wp_for_bind frame _ Set.univ _ _ _ k0_t6_ok init _ (inv c arg7 v15 (init, U))
    (trip6 c arg0 harg0 arg1 harg1 arg2 harg2 arg3 harg3 arg4 harg4 arg5 harg5 arg6 harg6 arg7 harg7 arg8 arg9 v15 v118 v135 (init, U))) $$ [Hu]
  · unfold inv
    isplitr; · ipureintro; rfl
    iexact Hu
  iintro %acc HI
  rw [show Scf.trips k0_t6_loop.lb k0_t6_loop.ub k0_t6_loop.st = 64 from trips_eq]
  unfold inv
  icases HI with ⟨%ha, Hu⟩
  subst ha
  iapply HK $$ Hu

theorem trip7 (v15 : FVec F S16x512 .f32) (v118 : FVec F S8x16x512 .f32) (v135 : FVec F S8x64x16x512 .f32) (s : FVec F S8x16x512 .f32 × FVec F S8x64x16x512 .f32) (k : Fin k0_t7_loop.trips) (acc : FVec F S8x16x512 .f32) :
    inv c arg7 v15 s k.val acc ⊢ runs c (k0_t7_body arg0 harg0 arg1 harg1 arg2 harg2 arg3 harg3 arg4 harg4 arg5 harg5 arg6 harg6 arg7 harg7 arg8 arg9 v15 v118 v135 k acc) (inv c arg7 v15 s (k.val + 1)) := by
  have hk : k.val < 64 := k.isLt.trans_eq trips_eq
  unfold inv
  iintro ⟨%ha, Hu⟩
  subst ha
  unfold k0_t7_body
  simp only [Prog.lift, Prog.bind_op, Prog.bind_ret, Prog.pure_eq_ret]
  iapply (holds_load (srow k.val (trips v15 s k.val).2) (window_srow k.val hk _ _ (off7_eq k) _)) $$ Hu
  iintro Hu
  iapply (holds_load (srow k.val (trips v15 s k.val).2) (window_srow k.val hk _ _ (off7_eq k) _)) $$ Hu
  iintro Hu
  iapply (holds_store (trips v15 s (k.val + 1)).2 (by rw [off7_eq k]; rfl)) $$ Hu
  iintro Hu
  iapply le_wp_ret
  isplitr; · ipureintro; rfl
  iexact Hu

theorem loop7 (v15 : FVec F S16x512 .f32) (v118 : FVec F S8x16x512 .f32) (v135 : FVec F S8x64x16x512 .f32) (init : FVec F S8x16x512 .f32) (U : FVec F S8x64x16x512 .f32) {α : Type}
    {kk : FVec F S8x16x512 .f32 → Prog (TpuEff nD τ sig (Elt F) Λ₀ .tc) α} {Q : α → sProp 𝕄} :
    Holds c arg7 U ⊢ iprop((Holds c arg7 (trips v15 (init, U) 64).2 -∗ runs c (kk (trips v15 (init, U) 64).1) Q)
      -∗ runs c (Scf.Loop.for k0_t7_loop k0_t7_ok init (k0_t7_body arg0 harg0 arg1 harg1 arg2 harg2 arg3 harg3 arg4 harg4 arg5 harg5 arg6 harg6 arg7 harg7 arg8 arg9 v15 v118 v135) >>= kk) Q) := by
  iintro Hu HK
  iapply (Scf.wp_for_bind frame _ Set.univ _ _ _ k0_t7_ok init _ (inv c arg7 v15 (init, U))
    (trip7 c arg0 harg0 arg1 harg1 arg2 harg2 arg3 harg3 arg4 harg4 arg5 harg5 arg6 harg6 arg7 harg7 arg8 arg9 v15 v118 v135 (init, U))) $$ [Hu]
  · unfold inv
    isplitr; · ipureintro; rfl
    iexact Hu
  iintro %acc HI
  rw [show Scf.trips k0_t7_loop.lb k0_t7_loop.ub k0_t7_loop.st = 64 from trips_eq]
  unfold inv
  icases HI with ⟨%ha, Hu⟩
  subst ha
  iapply HK $$ Hu

theorem trip8 (v15 : FVec F S16x512 .f32) (v162 : FVec F S8x16x512 .f32) (s : FVec F S8x16x512 .f32 × FVec F S8x64x16x512 .f32) (k : Fin k0_t8_loop.trips) (acc : FVec F S8x16x512 .f32) :
    inv c arg7 v15 s k.val acc ⊢ runs c (k0_t8_body arg0 harg0 arg1 harg1 arg2 harg2 arg3 harg3 arg4 harg4 arg5 harg5 arg6 harg6 arg7 harg7 arg8 arg9 v15 v162 k acc) (inv c arg7 v15 s (k.val + 1)) := by
  have hk : k.val < 64 := k.isLt.trans_eq trips_eq
  unfold inv
  iintro ⟨%ha, Hu⟩
  subst ha
  unfold k0_t8_body
  simp only [Prog.lift, Prog.bind_op, Prog.bind_ret, Prog.pure_eq_ret]
  iapply (holds_load (srow k.val (trips v15 s k.val).2) (window_srow k.val hk _ _ (off8_eq k) _)) $$ Hu
  iintro Hu
  iapply (holds_load (srow k.val (trips v15 s k.val).2) (window_srow k.val hk _ _ (off8_eq k) _)) $$ Hu
  iintro Hu
  iapply (holds_store (trips v15 s (k.val + 1)).2 (by rw [off8_eq k]; rfl)) $$ Hu
  iintro Hu
  iapply le_wp_ret
  isplitr; · ipureintro; rfl
  iexact Hu

theorem loop8 (v15 : FVec F S16x512 .f32) (v162 : FVec F S8x16x512 .f32) (init : FVec F S8x16x512 .f32) (U : FVec F S8x64x16x512 .f32) {α : Type}
    {kk : FVec F S8x16x512 .f32 → Prog (TpuEff nD τ sig (Elt F) Λ₀ .tc) α} {Q : α → sProp 𝕄} :
    Holds c arg7 U ⊢ iprop((Holds c arg7 (trips v15 (init, U) 64).2 -∗ runs c (kk (trips v15 (init, U) 64).1) Q)
      -∗ runs c (Scf.Loop.for k0_t8_loop k0_t8_ok init (k0_t8_body arg0 harg0 arg1 harg1 arg2 harg2 arg3 harg3 arg4 harg4 arg5 harg5 arg6 harg6 arg7 harg7 arg8 arg9 v15 v162) >>= kk) Q) := by
  iintro Hu HK
  iapply (Scf.wp_for_bind frame _ Set.univ _ _ _ k0_t8_ok init _ (inv c arg7 v15 (init, U))
    (trip8 c arg0 harg0 arg1 harg1 arg2 harg2 arg3 harg3 arg4 harg4 arg5 harg5 arg6 harg6 arg7 harg7 arg8 arg9 v15 v162 (init, U))) $$ [Hu]
  · unfold inv
    isplitr; · ipureintro; rfl
    iexact Hu
  iintro %acc HI
  rw [show Scf.trips k0_t8_loop.lb k0_t8_loop.ub k0_t8_loop.st = 64 from trips_eq]
  unfold inv
  icases HI with ⟨%ha, Hu⟩
  subst ha
  iapply HK $$ Hu

end Loops

end Cert.KernelIdealRun

end
-- ==== Proof.KernelIdeal.Parts.lean ====
/-
The printed parts of the kernel's body that talk to no other device, each from what the buffers hold before it to what
they hold after it: eight chunks of the recurrence with their output rows, and the correction of seven batch entries.
-/
module

public import proofs.«01_k».proof.Proof.KernelIdeal.Steps

@[expose] public section

noncomputable section

namespace Cert.KernelIdealRun

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.VecWindow (window put)

variable {F : FTy → Type} [FloatOps F]

local notation "𝕄" => MT nD τ sig Unit (Elt F) ℕ UU ℕ

section Parts

variable (c : Dev nD)
variable (arg0 : Memref sig .tc .vmem S8x512x512 .f32) (harg0 : arg0.IsWhole) (arg1 : Memref sig .tc .vmem S512x16 .f32) (harg1 : arg1.IsWhole)
  (arg2 : Memref sig .tc .vmem S8x512x16 .f32) (harg2 : arg2.IsWhole) (arg3 : Memref sig .tc .vmem S8x512x16 .f32) (harg3 : arg3.IsWhole)
  (arg4 : Memref sig .tc .vmem S8x512x512 .f32) (harg4 : arg4.IsWhole) (arg5 : Memref sig .tc .vmem S8x16x512 .f32) (harg5 : arg5.IsWhole)
  (arg6 : Memref sig .tc .vmem S8x16x512 .f32) (harg6 : arg6.IsWhole) (arg7 : Memref sig .tc .vmem S8x64x16x512 .f32) (harg7 : arg7.IsWhole)
  (arg8 : DmaSems sig S_) (arg9 : DmaSems sig S_)

variable (X : FVec F S8x512x512 .f32) (A : FVec F S512x16 .f32) (B C : FVec F S8x512x16 .f32) (O : FVec F S8x512x512 .f32)
  (H : FVec F S8x16x512 .f32)

theorem part6 {α : Type} {kk : _ → Prog (TpuEff nD τ sig (Elt F) Λ₀ .tc) α} {Q : α → sProp 𝕄} :
    iprop(Holds c arg0 X ∗ Holds c arg2 B ∗ Holds c arg3 C ∗ Holds c arg4 (outAfter X A B C O 0) ∗ Holds c arg7 (inp X B 0))
      ⊢ iprop(((Holds c arg0 X ∗ Holds c arg2 B ∗ Holds c arg3 C ∗ Holds c arg4 (outAfter X A B C O 1) ∗ Holds c arg7 (states X A B 1)) -∗ runs c (kk ⟨state X A B 2, k0_pay23 (chunk 1 C)⟩) Q)
        -∗ runs c (k0_part6 arg0 harg0 arg1 harg1 arg2 harg2 arg3 harg3 arg4 harg4 arg5 harg5 arg6 harg6 arg7 harg7 arg8 arg9 (k0_pay14 A) (state X A B 0) 0#32 >>= kk) Q) := by
  iintro ⟨HX, HB, HC, HO, HU⟩ HK
  rw [k0_part6_eq_skeleton, runs_bind]
  unfold k0_part6_skel
  simp only [Prog.lift, Prog.bind_op, Prog.bind_ret, Prog.pure_eq_ret]
  iapply (loop1 (init := state X A B 0) (U := inp X B 0)) $$ HU; iintro HU
  iapply (holds_load (chunk 0 C) (window_chunk 0 (by decide) _ _ rfl _)) $$ HC; iintro HC
  iapply (holds_load (states X A B 0) (window_full _ _ _)) $$ HU; iintro HU
  iapply (holds_load _ rfl) $$ HO; iintro HO
  iapply (holds_store (outAfter X A B C O 1) rfl) $$ HO; iintro HO
  iapply (holds_load (chunk 1 X) (window_chunk 1 (by decide) _ _ rfl _)) $$ HX; iintro HX
  iapply (holds_load (chunk 1 B) (window_chunk 1 (by decide) _ _ rfl _)) $$ HB; iintro HB
  iapply (holds_load (states X A B 0) (window_full _ _ _)) $$ HU; iintro HU
  iapply (holds_store (inp X B 1) (by exact put_full _ _ inb_S8x64x16x512_S8x64x16x512_0_0_0_0 _)) $$ HU; iintro HU
  iapply (loop2 (init := state X A B 1) (U := inp X B 1)) $$ HU; iintro HU
  iapply (holds_load (chunk 1 C) (window_chunk 1 (by decide) _ _ rfl _)) $$ HC; iintro HC
  iapply le_wp_ret
  iapply HK
  isplitl [HX]; · iexact HX
  isplitl [HB]; · iexact HB
  isplitl [HC]; · iexact HC
  isplitl [HO]; · iexact HO
  iexact HU

theorem part7 {α : Type} {kk : _ → Prog (TpuEff nD τ sig (Elt F) Λ₀ .tc) α} {Q : α → sProp 𝕄} :
    iprop(Holds c arg0 X ∗ Holds c arg2 B ∗ Holds c arg3 C ∗ Holds c arg4 (outAfter X A B C O 1) ∗ Holds c arg7 (states X A B 1))
      ⊢ iprop(((Holds c arg0 X ∗ Holds c arg2 B ∗ Holds c arg3 C ∗ Holds c arg4 (outAfter X A B C O 2) ∗ Holds c arg7 (states X A B 2)) -∗ runs c (kk ⟨state X A B 3, k0_pay28 (chunk 2 C) (states X A B 2)⟩) Q)
        -∗ runs c (k0_part7 arg0 harg0 arg1 harg1 arg2 harg2 arg3 harg3 arg4 harg4 arg5 harg5 arg6 harg6 arg7 harg7 arg8 arg9 (k0_pay14 A) (state X A B 2) (k0_pay23 (chunk 1 C)) >>= kk) Q) := by
  iintro ⟨HX, HB, HC, HO, HU⟩ HK
  rw [k0_part7_eq_skeleton, runs_bind]
  unfold k0_part7_skel
  simp only [Prog.lift, Prog.bind_op, Prog.bind_ret, Prog.pure_eq_ret]
  iapply (holds_load (states X A B 1) (window_full _ _ _)) $$ HU; iintro HU
  iapply (holds_load _ rfl) $$ HO; iintro HO
  iapply (holds_store (outAfter X A B C O 2) rfl) $$ HO; iintro HO
  iapply (holds_load (chunk 2 X) (window_chunk 2 (by decide) _ _ rfl _)) $$ HX; iintro HX
  iapply (holds_load (chunk 2 B) (window_chunk 2 (by decide) _ _ rfl _)) $$ HB; iintro HB
  iapply (holds_load (states X A B 1) (window_full _ _ _)) $$ HU; iintro HU
  iapply (holds_store (inp X B 2) (by exact put_full _ _ inb_S8x64x16x512_S8x64x16x512_0_0_0_0 _)) $$ HU; iintro HU
  iapply (loop3 (init := state X A B 2) (U := inp X B 2)) $$ HU; iintro HU
  iapply (holds_load (chunk 2 C) (window_chunk 2 (by decide) _ _ rfl _)) $$ HC; iintro HC
  iapply (holds_load (states X A B 2) (window_full _ _ _)) $$ HU; iintro HU
  iapply (holds_load _ rfl) $$ HO; iintro HO
  iapply le_wp_ret
  iapply HK
  isplitl [HX]; · iexact HX
  isplitl [HB]; · iexact HB
  isplitl [HC]; · iexact HC
  isplitl [HO]; · iexact HO
  iexact HU

theorem part8 {α : Type} {kk : _ → Prog (TpuEff nD τ sig (Elt F) Λ₀ .tc) α} {Q : α → sProp 𝕄} :
    iprop(Holds c arg0 X ∗ Holds c arg2 B ∗ Holds c arg3 C ∗ Holds c arg4 (outAfter X A B C O 2) ∗ Holds c arg7 (states X A B 2))
      ⊢ iprop(((Holds c arg0 X ∗ Holds c arg2 B ∗ Holds c arg3 C ∗ Holds c arg4 (outAfter X A B C O 4) ∗ Holds c arg7 (states X A B 3)) -∗ runs c (kk ⟨state X A B 4, k0_pay33 (chunk 4 X), k0_pay34 (chunk 4 B)⟩) Q)
        -∗ runs c (k0_part8 arg0 harg0 arg1 harg1 arg2 harg2 arg3 harg3 arg4 harg4 arg5 harg5 arg6 harg6 arg7 harg7 arg8 arg9 (k0_pay14 A) (state X A B 3) (k0_pay28 (chunk 2 C) (states X A B 2)) >>= kk) Q) := by
  iintro ⟨HX, HB, HC, HO, HU⟩ HK
  rw [k0_part8_eq_skeleton, runs_bind]
  unfold k0_part8_skel
  simp only [Prog.lift, Prog.bind_op, Prog.bind_ret, Prog.pure_eq_ret]
  iapply (holds_store (outAfter X A B C O 3) rfl) $$ HO; iintro HO
  iapply (holds_load (chunk 3 X) (window_chunk 3 (by decide) _ _ rfl _)) $$ HX; iintro HX
  iapply (holds_load (chunk 3 B) (window_chunk 3 (by decide) _ _ rfl _)) $$ HB; iintro HB
  iapply (holds_load (states X A B 2) (window_full _ _ _)) $$ HU; iintro HU
  iapply (holds_store (inp X B 3) (by exact put_full _ _ inb_S8x64x16x512_S8x64x16x512_0_0_0_0 _)) $$ HU; iintro HU
  iapply (loop4 (init := state X A B 3) (U := inp X B 3)) $$ HU; iintro HU
  iapply (holds_load (chunk 3 C) (window_chunk 3 (by decide) _ _ rfl _)) $$ HC; iintro HC
  iapply (holds_load (states X A B 3) (window_full _ _ _)) $$ HU; iintro HU
  iapply (holds_load _ rfl) $$ HO; iintro HO
  iapply (holds_store (outAfter X A B C O 4) rfl) $$ HO; iintro HO
  iapply (holds_load (chunk 4 X) (window_chunk 4 (by decide) _ _ rfl _)) $$ HX; iintro HX
  iapply (holds_load (chunk 4 B) (window_chunk 4 (by decide) _ _ rfl _)) $$ HB; iintro HB
  iapply le_wp_ret
  iapply HK
  isplitl [HX]; · iexact HX
  isplitl [HB]; · iexact HB
  isplitl [HC]; · iexact HC
  isplitl [HO]; · iexact HO
  iexact HU

theorem part9 {α : Type} {kk : _ → Prog (TpuEff nD τ sig (Elt F) Λ₀ .tc) α} {Q : α → sProp 𝕄} :
    iprop(Holds c arg0 X ∗ Holds c arg2 B ∗ Holds c arg3 C ∗ Holds c arg4 (outAfter X A B C O 4) ∗ Holds c arg7 (states X A B 3))
      ⊢ iprop(((Holds c arg0 X ∗ Holds c arg2 B ∗ Holds c arg3 C ∗ Holds c arg4 (outAfter X A B C O 5) ∗ Holds c arg7 (states X A B 4)) -∗ runs c (kk ⟨state X A B 5, k0_pay39 (chunk 5 X) (chunk 5 B)⟩) Q)
        -∗ runs c (k0_part9 arg0 harg0 arg1 harg1 arg2 harg2 arg3 harg3 arg4 harg4 arg5 harg5 arg6 harg6 arg7 harg7 arg8 arg9 (k0_pay14 A) (state X A B 4) (k0_pay33 (chunk 4 X)) (k0_pay34 (chunk 4 B)) >>= kk) Q) := by
  iintro ⟨HX, HB, HC, HO, HU⟩ HK
  rw [k0_part9_eq_skeleton, runs_bind]
  unfold k0_part9_skel
  simp only [Prog.lift, Prog.bind_op, Prog.bind_ret, Prog.pure_eq_ret]
  iapply (holds_load (states X A B 3) (window_full _ _ _)) $$ HU; iintro HU
  iapply (holds_store (inp X B 4) (by exact put_full _ _ inb_S8x64x16x512_S8x64x16x512_0_0_0_0 _)) $$ HU; iintro HU
  iapply (loop5 (init := state X A B 4) (U := inp X B 4)) $$ HU; iintro HU
  iapply (holds_load (chunk 4 C) (window_chunk 4 (by decide) _ _ rfl _)) $$ HC; iintro HC
  iapply (holds_load (states X A B 4) (window_full _ _ _)) $$ HU; iintro HU
  iapply (holds_load _ rfl) $$ HO; iintro HO
  iapply (holds_store (outAfter X A B C O 5) rfl) $$ HO; iintro HO
  iapply (holds_load (chunk 5 X) (window_chunk 5 (by decide) _ _ rfl _)) $$ HX; iintro HX
  iapply (holds_load (chunk 5 B) (window_chunk 5 (by decide) _ _ rfl _)) $$ HB; iintro HB
  iapply (holds_load (states X A B 4) (window_full _ _ _)) $$ HU; iintro HU
  iapply le_wp_ret
  iapply HK
  isplitl [HX]; · iexact HX
  isplitl [HB]; · iexact HB
  isplitl [HC]; · iexact HC
  isplitl [HO]; · iexact HO
  iexact HU

theorem part10 {α : Type} {kk : _ → Prog (TpuEff nD τ sig (Elt F) Λ₀ .tc) α} {Q : α → sProp 𝕄} :
    iprop(Holds c arg0 X ∗ Holds c arg2 B ∗ Holds c arg3 C ∗ Holds c arg4 (outAfter X A B C O 5) ∗ Holds c arg7 (states X A B 4))
      ⊢ iprop(((Holds c arg0 X ∗ Holds c arg2 B ∗ Holds c arg3 C ∗ Holds c arg4 (outAfter X A B C O 6) ∗ Holds c arg7 (states X A B 6)) -∗ runs c (kk (state X A B 7)) Q)
        -∗ runs c (k0_part10 arg0 harg0 arg1 harg1 arg2 harg2 arg3 harg3 arg4 harg4 arg5 harg5 arg6 harg6 arg7 harg7 arg8 arg9 (k0_pay14 A) (state X A B 5) (k0_pay39 (chunk 5 X) (chunk 5 B)) >>= kk) Q) := by
  iintro ⟨HX, HB, HC, HO, HU⟩ HK
  rw [k0_part10_eq_skeleton, runs_bind]
  unfold k0_part10_skel
  simp only [Prog.lift, Prog.bind_op, Prog.bind_ret, Prog.pure_eq_ret]
  iapply (holds_store (inp X B 5) (by exact put_full _ _ inb_S8x64x16x512_S8x64x16x512_0_0_0_0 _)) $$ HU; iintro HU
  iapply (loop6 (init := state X A B 5) (U := inp X B 5)) $$ HU; iintro HU
  iapply (holds_load (chunk 5 C) (window_chunk 5 (by decide) _ _ rfl _)) $$ HC; iintro HC
  iapply (holds_load (states X A B 5) (window_full _ _ _)) $$ HU; iintro HU
  iapply (holds_load _ rfl) $$ HO; iintro HO
  iapply (holds_store (outAfter X A B C O 6) rfl) $$ HO; iintro HO
  iapply (holds_load (chunk 6 X) (window_chunk 6 (by decide) _ _ rfl _)) $$ HX; iintro HX
  iapply (holds_load (chunk 6 B) (window_chunk 6 (by decide) _ _ rfl _)) $$ HB; iintro HB
  iapply (holds_load (states X A B 5) (window_full _ _ _)) $$ HU; iintro HU
  iapply (holds_store (inp X B 6) (by exact put_full _ _ inb_S8x64x16x512_S8x64x16x512_0_0_0_0 _)) $$ HU; iintro HU
  iapply (loop7 (init := state X A B 6) (U := inp X B 6)) $$ HU; iintro HU
  iapply le_wp_ret
  iapply HK
  isplitl [HX]; · iexact HX
  isplitl [HB]; · iexact HB
  isplitl [HC]; · iexact HC
  isplitl [HO]; · iexact HO
  iexact HU

theorem part11 {α : Type} {kk : _ → Prog (TpuEff nD τ sig (Elt F) Λ₀ .tc) α} {Q : α → sProp 𝕄} :
    iprop(Holds c arg0 X ∗ Holds c arg2 B ∗ Holds c arg3 C ∗ Holds c arg4 (outAfter X A B C O 6) ∗ Holds c arg7 (states X A B 6))
      ⊢ iprop(((Holds c arg0 X ∗ Holds c arg2 B ∗ Holds c arg3 C ∗ Holds c arg4 (outAfter X A B C O 7) ∗ Holds c arg7 (states X A B 7)) -∗ runs c (kk ⟨state X A B 8, k0_pay51 (chunk 7 C) (states X A B 7)⟩) Q)
        -∗ runs c (k0_part11 arg0 harg0 arg1 harg1 arg2 harg2 arg3 harg3 arg4 harg4 arg5 harg5 arg6 harg6 arg7 harg7 arg8 arg9 (k0_pay14 A) (state X A B 7) >>= kk) Q) := by
  iintro ⟨HX, HB, HC, HO, HU⟩ HK
  rw [k0_part11_eq_skeleton, runs_bind]
  unfold k0_part11_skel
  simp only [Prog.lift, Prog.bind_op, Prog.bind_ret, Prog.pure_eq_ret]
  iapply (holds_load (chunk 6 C) (window_chunk 6 (by decide) _ _ rfl _)) $$ HC; iintro HC
  iapply (holds_load (states X A B 6) (window_full _ _ _)) $$ HU; iintro HU
  iapply (holds_load _ rfl) $$ HO; iintro HO
  iapply (holds_store (outAfter X A B C O 7) rfl) $$ HO; iintro HO
  iapply (holds_load (chunk 7 X) (window_chunk 7 (by decide) _ _ rfl _)) $$ HX; iintro HX
  iapply (holds_load (chunk 7 B) (window_chunk 7 (by decide) _ _ rfl _)) $$ HB; iintro HB
  iapply (holds_load (states X A B 6) (window_full _ _ _)) $$ HU; iintro HU
  iapply (holds_store (inp X B 7) (by exact put_full _ _ inb_S8x64x16x512_S8x64x16x512_0_0_0_0 _)) $$ HU; iintro HU
  iapply (loop8 (init := state X A B 7) (U := inp X B 7)) $$ HU; iintro HU
  iapply (holds_load (chunk 7 C) (window_chunk 7 (by decide) _ _ rfl _)) $$ HC; iintro HC
  iapply (holds_load (states X A B 7) (window_full _ _ _)) $$ HU; iintro HU
  iapply le_wp_ret
  iapply HK
  isplitl [HX]; · iexact HX
  isplitl [HB]; · iexact HB
  isplitl [HC]; · iexact HC
  isplitl [HO]; · iexact HO
  iexact HU

theorem part2 {α : Type} {kk : _ → Prog (TpuEff nD τ sig (Elt F) Λ₀ .tc) α} {Q : α → sProp 𝕄} :
    iprop(Holds c arg3 C ∗ Holds c arg6 H ∗ Holds c arg4 (corrected A C H O 1))
      ⊢ iprop(((Holds c arg3 C ∗ Holds c arg6 H ∗ Holds c arg4 (corrected A C H O 3)) -∗ runs c (kk (k0_pay9 (batch 64 3 (by decide) C))) Q)
        -∗ runs c (k0_part2 arg0 harg0 arg1 harg1 arg2 harg2 arg3 harg3 arg4 harg4 arg5 harg5 arg6 harg6 arg7 harg7 arg8 arg9 (k0_pay4 A) (k0_pay6 (batch 64 1 (by decide) C)) >>= kk) Q) := by
  iintro ⟨HC, HH, HO⟩ HK
  rw [k0_part2_eq_skeleton, runs_bind]
  unfold k0_part2_skel
  simp only [Prog.lift, Prog.bind_op, Prog.bind_ret, Prog.pure_eq_ret]
  iapply (holds_load (batch 16 1 (by decide) H) (window_batch 16 1 (by decide) (by decide) (by decide) _ _ rfl _)) $$ HH; iintro HH
  iapply (holds_load (batch 64 1 (by decide) (corrected A C H O 1)) (window_batch 64 1 (by decide) (by decide) (by decide) _ _ rfl _)) $$ HO; iintro HO
  iapply (holds_load (batch 64 1 (by decide) (corrected A C H O 1)) (window_batch 64 1 (by decide) (by decide) (by decide) _ _ rfl _)) $$ HO; iintro HO
  iapply (holds_store (corrected A C H O 2) rfl) $$ HO; iintro HO
  iapply (holds_load (batch 64 2 (by decide) C) (window_batch 64 2 (by decide) (by decide) (by decide) _ _ rfl _)) $$ HC; iintro HC
  iapply (holds_load (batch 16 2 (by decide) H) (window_batch 16 2 (by decide) (by decide) (by decide) _ _ rfl _)) $$ HH; iintro HH
  iapply (holds_load (batch 64 2 (by decide) (corrected A C H O 2)) (window_batch 64 2 (by decide) (by decide) (by decide) _ _ rfl _)) $$ HO; iintro HO
  iapply (holds_load (batch 64 2 (by decide) (corrected A C H O 2)) (window_batch 64 2 (by decide) (by decide) (by decide) _ _ rfl _)) $$ HO; iintro HO
  iapply (holds_store (corrected A C H O 3) rfl) $$ HO; iintro HO
  iapply (holds_load (batch 64 3 (by decide) C) (window_batch 64 3 (by decide) (by decide) (by decide) _ _ rfl _)) $$ HC; iintro HC
  iapply le_wp_ret
  iapply HK
  isplitl [HC]; · iexact HC
  isplitl [HH]; · iexact HH
  iexact HO

theorem part3 {α : Type} {kk : _ → Prog (TpuEff nD τ sig (Elt F) Λ₀ .tc) α} {Q : α → sProp 𝕄} :
    iprop(Holds c arg3 C ∗ Holds c arg6 H ∗ Holds c arg4 (corrected A C H O 3))
      ⊢ iprop(((Holds c arg3 C ∗ Holds c arg6 H ∗ Holds c arg4 (corrected A C H O 5)) -∗ runs c (kk ⟨⟩) Q)
        -∗ runs c (k0_part3 arg0 harg0 arg1 harg1 arg2 harg2 arg3 harg3 arg4 harg4 arg5 harg5 arg6 harg6 arg7 harg7 arg8 arg9 (k0_pay4 A) (k0_pay9 (batch 64 3 (by decide) C)) >>= kk) Q) := by
  iintro ⟨HC, HH, HO⟩ HK
  rw [k0_part3_eq_skeleton, runs_bind]
  unfold k0_part3_skel
  simp only [Prog.lift, Prog.bind_op, Prog.bind_ret, Prog.pure_eq_ret]
  iapply (holds_load (batch 16 3 (by decide) H) (window_batch 16 3 (by decide) (by decide) (by decide) _ _ rfl _)) $$ HH; iintro HH
  iapply (holds_load (batch 64 3 (by decide) (corrected A C H O 3)) (window_batch 64 3 (by decide) (by decide) (by decide) _ _ rfl _)) $$ HO; iintro HO
  iapply (holds_load (batch 64 3 (by decide) (corrected A C H O 3)) (window_batch 64 3 (by decide) (by decide) (by decide) _ _ rfl _)) $$ HO; iintro HO
  iapply (holds_store (corrected A C H O 4) rfl) $$ HO; iintro HO
  iapply (holds_load (batch 64 4 (by decide) C) (window_batch 64 4 (by decide) (by decide) (by decide) _ _ rfl _)) $$ HC; iintro HC
  iapply (holds_load (batch 16 4 (by decide) H) (window_batch 16 4 (by decide) (by decide) (by decide) _ _ rfl _)) $$ HH; iintro HH
  iapply (holds_load (batch 64 4 (by decide) (corrected A C H O 4)) (window_batch 64 4 (by decide) (by decide) (by decide) _ _ rfl _)) $$ HO; iintro HO
  iapply (holds_load (batch 64 4 (by decide) (corrected A C H O 4)) (window_batch 64 4 (by decide) (by decide) (by decide) _ _ rfl _)) $$ HO; iintro HO
  iapply (holds_store (corrected A C H O 5) rfl) $$ HO; iintro HO
  iapply le_wp_ret
  iapply HK
  isplitl [HC]; · iexact HC
  isplitl [HH]; · iexact HH
  iexact HO

theorem part4 {α : Type} {kk : _ → Prog (TpuEff nD τ sig (Elt F) Λ₀ .tc) α} {Q : α → sProp 𝕄} :
    iprop(Holds c arg3 C ∗ Holds c arg6 H ∗ Holds c arg4 (corrected A C H O 5))
      ⊢ iprop(((Holds c arg3 C ∗ Holds c arg6 H ∗ Holds c arg4 (corrected A C H O 7)) -∗ runs c (kk ⟨⟩) Q)
        -∗ runs c (k0_part4 arg0 harg0 arg1 harg1 arg2 harg2 arg3 harg3 arg4 harg4 arg5 harg5 arg6 harg6 arg7 harg7 arg8 arg9 (k0_pay4 A) >>= kk) Q) := by
  iintro ⟨HC, HH, HO⟩ HK
  rw [k0_part4_eq_skeleton, runs_bind]
  unfold k0_part4_skel
  simp only [Prog.lift, Prog.bind_op, Prog.bind_ret, Prog.pure_eq_ret]
  iapply (holds_load (batch 64 5 (by decide) C) (window_batch 64 5 (by decide) (by decide) (by decide) _ _ rfl _)) $$ HC; iintro HC
  iapply (holds_load (batch 16 5 (by decide) H) (window_batch 16 5 (by decide) (by decide) (by decide) _ _ rfl _)) $$ HH; iintro HH
  iapply (holds_load (batch 64 5 (by decide) (corrected A C H O 5)) (window_batch 64 5 (by decide) (by decide) (by decide) _ _ rfl _)) $$ HO; iintro HO
  iapply (holds_load (batch 64 5 (by decide) (corrected A C H O 5)) (window_batch 64 5 (by decide) (by decide) (by decide) _ _ rfl _)) $$ HO; iintro HO
  iapply (holds_store (corrected A C H O 6) rfl) $$ HO; iintro HO
  iapply (holds_load (batch 64 6 (by decide) C) (window_batch 64 6 (by decide) (by decide) (by decide) _ _ rfl _)) $$ HC; iintro HC
  iapply (holds_load (batch 16 6 (by decide) H) (window_batch 16 6 (by decide) (by decide) (by decide) _ _ rfl _)) $$ HH; iintro HH
  iapply (holds_load (batch 64 6 (by decide) (corrected A C H O 6)) (window_batch 64 6 (by decide) (by decide) (by decide) _ _ rfl _)) $$ HO; iintro HO
  iapply (holds_load (batch 64 6 (by decide) (corrected A C H O 6)) (window_batch 64 6 (by decide) (by decide) (by decide) _ _ rfl _)) $$ HO; iintro HO
  iapply (holds_store (corrected A C H O 7) rfl) $$ HO; iintro HO
  iapply le_wp_ret
  iapply HK
  isplitl [HC]; · iexact HC
  isplitl [HH]; · iexact HH
  iexact HO

end Parts

end Cert.KernelIdealRun

end
-- ==== Proof.KernelIdeal.Closed.lean ====
/-
The output block in closed form: after eight chunks every row is an output row of its chunk, whatever the block held
before; and a correction changes the first 64 rows of each batch entry, each by its own payload.
-/
module

public import proofs.«01_k».proof.Proof.KernelIdeal.Spec

@[expose] public section

noncomputable section

namespace Cert.KernelIdealRun

open Cert.KernelIdeal Cert.KernelIdeal.Gen
open Idealize.ShloMosaic Idealize.ShloMosaic.ValueIdx
open Idealize.ShloMosaic.VecWindow (window put)

variable {F : FTy → Type} [FloatOps F]

/-- A put of 64 rows, read at an index of them. -/
theorem put_rows_in {α : Type} (X : S8x512x512.Idx → α) (n : ℕ) (w : S8x64x512.Idx → α) (y : S8x512x512.Idx)
    (h : 64 * n ≤ (y 1).val ∧ (y 1).val < 64 * n + 64) :
    put X ![0, 64 * n, 0] ![8, 64, 512] w y = w (ix3 (y 0) ⟨(y 1).val - 64 * n, by omega⟩ (y 2)) := by
  have h0 : (y 0).val < 8 := (y 0).isLt
  have h2 : (y 2).val < 512 := (y 2).isLt
  unfold put
  rw [dif_pos (fun a => by
    match a with
    | ⟨0, _⟩ => exact ⟨Nat.zero_le _, show (y 0).val < 0 + 8 by omega⟩
    | ⟨1, _⟩ => exact ⟨h.1, h.2⟩
    | ⟨2, _⟩ => exact ⟨Nat.zero_le _, show (y 2).val < 0 + 512 by omega⟩)]
  refine congrArg w (funext fun a => Fin.ext ?_)
  match a with
  | ⟨0, _⟩ => rfl
  | ⟨1, _⟩ => rfl
  | ⟨2, _⟩ => rfl

/-- … and at one of the others. -/
theorem put_rows_out {α : Type} (X : S8x512x512.Idx → α) (n : ℕ) (w : S8x64x512.Idx → α) (y : S8x512x512.Idx)
    (h : ¬ (64 * n ≤ (y 1).val ∧ (y 1).val < 64 * n + 64)) :
    put X ![0, 64 * n, 0] ![8, 64, 512] w y = X y := by
  unfold put
  exact dif_neg fun hall => h (hall 1)

/-- Every row at its chunk's output row. -/
def outPlain (X : FVec F S8x512x512 .f32) (A : FVec F S512x16 .f32) (B C : FVec F S8x512x16 .f32) : FVec F S8x512x512 .f32 :=
  fun y => outRows X A B C ((y 1).val / 64) (ix3 (y 0) ⟨(y 1).val % 64, Nat.mod_lt _ (by decide)⟩ (y 2))

theorem outAfter_apply (X : FVec F S8x512x512 .f32) (A : FVec F S512x16 .f32) (B C : FVec F S8x512x16 .f32) (O : FVec F S8x512x512 .f32)
    (y : S8x512x512.Idx) : ∀ n : ℕ, (y 1).val < 64 * n → outAfter X A B C O n y = outPlain X A B C y
  | 0, h => absurd h (Nat.not_lt_zero _)
  | n + 1, h => by
    show put (outAfter X A B C O n) ![0, 64 * n, 0] ![8, 64, 512] (outRows X A B C n) y = _
    by_cases hy : 64 * n ≤ (y 1).val
    · rw [put_rows_in _ n _ y ⟨hy, by omega⟩]
      unfold outPlain
      have e1 : (y 1).val / 64 = n := by omega
      have e2 : (y 1).val - 64 * n = (y 1).val % 64 := by omega
      rw [e1]
      exact congrArg _ (by simp only [e2])
    · rw [put_rows_out _ n _ y (fun h' => hy h'.1)]
      exact outAfter_apply X A B C O y n (by omega)

theorem outAfter_eq (X : FVec F S8x512x512 .f32) (A : FVec F S512x16 .f32) (B C : FVec F S8x512x16 .f32) (O : FVec F S8x512x512 .f32) :
    outAfter X A B C O 8 = outPlain X A B C :=
  funext fun y => outAfter_apply X A B C O y 8 (by have : (y 1).val < 512 := (y 1).isLt; omega)

/-! ## The correction -/

/-- A put of one batch entry's first 64 rows, read at an index of them. -/
theorem put_batch_in {α : Type} (X : S8x512x512.Idx → α) (b : ℕ) (w : S1x64x512.Idx → α) (y : S8x512x512.Idx)
    (h : (y 0).val = b ∧ (y 1).val < 64) :
    put X ![b, 0, 0] ![1, 64, 512] w y = w (ix3 0 ⟨(y 1).val % 64, Nat.mod_lt _ (by decide)⟩ (y 2)) := by
  have h2 : (y 2).val < 512 := (y 2).isLt
  unfold put
  rw [dif_pos (fun a => by
    match a with
    | ⟨0, _⟩ => exact ⟨h.1.ge, show (y 0).val < b + 1 by omega⟩
    | ⟨1, _⟩ => exact ⟨Nat.zero_le _, show (y 1).val < 0 + 64 by omega⟩
    | ⟨2, _⟩ => exact ⟨Nat.zero_le _, show (y 2).val < 0 + 512 by omega⟩)]
  refine congrArg w (funext fun a => Fin.ext ?_)
  match a with
  | ⟨0, _⟩ => show (y 0).val - b = 0; omega
  | ⟨1, _⟩ => show (y 1).val - 0 = (y 1).val % 64; omega
  | ⟨2, _⟩ => rfl

/-- … and at one of the others. -/
theorem put_batch_out {α : Type} (X : S8x512x512.Idx → α) (b : ℕ) (w : S1x64x512.Idx → α) (y : S8x512x512.Idx)
    (h : ¬ ((y 0).val = b ∧ (y 1).val < 64)) :
    put X ![b, 0, 0] ![1, 64, 512] w y = X y := by
  unfold put
  exact dif_neg fun hall => h ⟨by
    have h0 : b ≤ (y 0).val ∧ (y 0).val < b + 1 := hall 0
    omega, by
    have h1 : 0 ≤ (y 1).val ∧ (y 1).val < 0 + 64 := hall 1
    omega⟩

/-- A batch entry not yet reached holds what it held. -/
theorem corrected_later (A : FVec F S512x16 .f32) (C : FVec F S8x512x16 .f32) (H : FVec F S8x16x512 .f32) (O : FVec F S8x512x512 .f32)
    (y : S8x512x512.Idx) : ∀ b : ℕ, b ≤ (y 0).val → corrected A C H O b y = O y
  | 0, _ => rfl
  | b + 1, h => by
    show put (corrected A C H O b) ![b, 0, 0] ![1, 64, 512] _ y = _
    rw [put_batch_out _ b _ y (fun h' => by omega)]
    exact corrected_later A C H O y b (by omega)

theorem corrected_apply (A : FVec F S512x16 .f32) (C : FVec F S8x512x16 .f32) (H : FVec F S8x16x512 .f32) (O : FVec F S8x512x512 .f32)
    (y : S8x512x512.Idx) (hy : (y 1).val < 64) : ∀ b : ℕ, (y 0).val < b → b ≤ 8 → corrected A C H O b y
      = k0_pay5 A (batch 64 (y 0).val (by decide) C) (batch 16 (y 0).val (by decide) H) (batch 64 (y 0).val (by decide) O)
          (ix3 0 ⟨(y 1).val % 64, Nat.mod_lt _ (by decide)⟩ (y 2))
  | 0, h, _ => absurd h (Nat.not_lt_zero _)
  | b + 1, h, hb => by
    show put (corrected A C H O b) ![b, 0, 0] ![1, 64, 512] _ y = _
    by_cases hb' : (y 0).val = b
    · rw [put_batch_in _ b _ y ⟨hb', hy⟩]
      subst hb'
      have e : batch 64 (y 0).val (by decide) (corrected A C H O (y 0).val) = batch 64 (y 0).val (by decide) O := funext fun z => by
        refine corrected_later A C H O _ _ ?_
        have hz : (z 0).val < 1 := (z 0).isLt
        show (y 0).val ≤ ((y 0).val + (z 0).val) % 8
        omega
      rw [e]
    · rw [put_batch_out _ b _ y (fun h' => hb' h'.1)]
      exact corrected_apply A C H O y hy b (by omega) (by omega)

theorem corrected_rest (A : FVec F S512x16 .f32) (C : FVec F S8x512x16 .f32) (H : FVec F S8x16x512 .f32) (O : FVec F S8x512x512 .f32)
    (y : S8x512x512.Idx) (hy : ¬ (y 1).val < 64) : ∀ b : ℕ, corrected A C H O b y = O y
  | 0 => rfl
  | b + 1 => by
    show put (corrected A C H O b) ![b, 0, 0] ![1, 64, 512] _ y = _
    rw [put_batch_out _ b _ y (fun h' => hy h'.2)]
    exact corrected_rest A C H O y hy b

end Cert.KernelIdealRun

end
-- ==== Proof.KernelIdeal.Exchange.lean ====
/-
The exchange between the two devices of a row of the mesh. Each device tells its neighbour it has started and waits for
the neighbour's word; the device of even number sends its last state into the neighbour's buffer, the one of odd number
waits for it.

Three cells on every device. The barrier cell takes one unit, from the neighbour; when the device is a sender the
neighbour's buffer comes with it. The send cell of a sender takes the transfer's credit and gives the sender's state
back; the receive cell of a receiver takes it too and gives the buffer holding the sender's state. The send cell of a
receiver and the receive cell of a sender are never used.
-/
module

public import proofs.«01_k».proof.Proof.KernelIdeal.Parts
public import proofs.«01_k».proof.Proof.KernelIdeal.Closed

@[expose] public section

noncomputable section

namespace Cert.KernelIdealRun

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The memory at launch: any contents, every semaphore counter zero, any generator registers. -/
def start₀ : MemSt nD τ sig (Elt F) := ⟨m, fun _ => 0, ρ⟩

/-! ## Neighbours -/

set_option backward.proofsInPublic true in
/-- The other device of the row. -/
def peer (c : Dev nD) : Dev nD := ⟨(2 * (c.val / 2) + 1) - c.val % 2, by
  have h : c.val < 4 := c.isLt
  show _ < 4
  omega⟩

theorem peer_peer (c : Dev nD) : peer (peer c) = c := by revert c; decide
theorem dev1_eq (c : Dev nD) : (⟨k0_dev1 c, k0_dev1_lt c⟩ : Dev nD) = peer c := Fin.ext (k0_dev1_eq c)
theorem dev2_eq (c : Dev nD) (h) : (⟨k0_dev2 c, k0_dev2_lt c h⟩ : Dev nD) = peer c := Fin.ext (k0_dev2_eq c)

def swap : Dev nD ≃ Dev nD := ⟨peer, peer, peer_peer, peer_peer⟩

/-- A device that sends: the first of its row. -/
abbrev Sends (c : Dev nD) : Prop := c.val % 2 = 0

theorem sends_peer (c : Dev nD) : Sends (peer c) ↔ ¬ Sends c := by revert c; decide
theorem cond_sends (c : Dev nD) : (k0_cond1 c = 1#1) = Sends c := by revert c; decide +kernel
theorem cond_receives (c : Dev nD) :
    (Scalar.cmpi .ne (Scalar.extui (Scalar.cmpi .eq (Scalar.remsi (Scalar.divsi (Dev.word c) 1#32) 2#32) 1#32) : BitVec 32) 0#32 = 1#1)
      = (¬ Sends c) := by
  revert c; decide +kernel

/-! ## The memrefs and the cells -/

abbrev xM : Memref sig .tc .vmem S8x512x512 .f32 := Memref.whole cc0_stg0_0
abbrev aM : Memref sig .tc .vmem S512x16 .f32 := Memref.whole cc0_stg1_0
abbrev bM : Memref sig .tc .vmem S8x512x16 .f32 := Memref.whole cc0_stg2_0
abbrev cM : Memref sig .tc .vmem S8x512x16 .f32 := Memref.whole cc0_stg3_0
abbrev oM : Memref sig .tc .vmem S8x512x512 .f32 := Memref.whole cc0_stg4_0
/-- The state a device hands on, the state that comes in, the scratch array of the chunks. -/
abbrev hM : Memref sig .tc .vmem S8x16x512 .f32 := Memref.whole cc0_scratch0
abbrev iM : Memref sig .tc .vmem S8x16x512 .f32 := Memref.whole cc0_scratch1
abbrev uM : Memref sig .tc .vmem S8x64x16x512 .f32 := Memref.whole cc0_scratch2

abbrev barS : Sem sig := (SemArray.scalar (sig.barrier 0 rfl) : Sems sig S_).sem
abbrev sndS : DmaSems sig S_ := cc0_scratch3
abbrev rcvS : DmaSems sig S_ := cc0_scratch4

abbrev barCell (c : Dev nD) : GSem nD τ sig := ((c : Thread nD τ), .reg barS)
abbrev sndCell (c : Dev nD) : GSem nD τ sig := ((c : Thread nD τ), .dma sndS.sem)
abbrev rcvCell (c : Dev nD) : GSem nD τ sig := ((c : Thread nD τ), .dma rcvS.sem)

/-- The transfer's credit. -/
abbrev N : ℕ := (iM : Memref sig .tc .vmem S8x16x512 .f32).view.dmaCredit
theorem N_pos : 0 < N := View.dmaCredit_pos _ (by decide)

/-! ## Contents -/

section Contents

variable (c : Dev nD)

/-- Device `c`'s blocks of the four arguments, as they are staged. -/
def xAt : FVec F S8x512x512 .f32 := (win0_0.blk (0 : Fin 1)).view.read (Elt F) (m ((c : Thread nD τ).loc main_arg0))
def aAt : FVec F S512x16 .f32 := (win0_1.blk (0 : Fin 1)).view.read (Elt F) (m ((c : Thread nD τ).loc main_arg1))
def bAt : FVec F S8x512x16 .f32 := (win0_2.blk (0 : Fin 1)).view.read (Elt F) (m ((c : Thread nD τ).loc main_arg2))
def cAt : FVec F S8x512x16 .f32 := (win0_3.blk (0 : Fin 1)).view.read (Elt F) (m ((c : Thread nD τ).loc main_arg3))

/-- The state device `c` hands on. -/
def hand : FVec F S8x16x512 .f32 := lastState (xAt m c) (aAt m c) (bAt m c)

/-- The output before any correction. -/
def plain : FVec F S8x512x512 .f32 := outPlain (xAt m c) (aAt m c) (bAt m c) (cAt m c)

/-- The kernel's result on device `c`. -/
def outAt : FVec F S8x512x512 .f32 :=
  if Sends c then plain m c else corrected (aAt m c) (cAt m c) (hand m (peer c)) (plain m c) 8

end Contents

/-- A whole buffer held, as the pipeline states it. -/
theorem holds_whole (c : Dev nD) (b : Ref sig .tc) (X : b.ty.Contents (Elt F)) :
    (Holds c (Memref.whole b) X : sProp 𝕄)
      = iprop(∃ f : Buf (Elt F) (((c : Dev nD) : Thread nD τ).loc b), ⌜f = X⌝ ∗ (((c : Thread nD τ).loc b) ↦{fullShare} f)) := by
  unfold Holds; simp only [Memref.view_whole, View.read_whole]

instance holds_storable (c : Dev nD) {cs : Space} {s : Shape} {e : EltTy} (M : Memref sig .tc cs s e) (X : s.Idx → Elt F e) :
    BI.Storable (upEmb : UEmb _ 𝕄) (Holds (F := F) c M X) := by unfold Holds; infer_instance

/-! ## The schedule -/

/-- What comes with the word a device waits for at the barrier: for a sender, the neighbour's buffer. -/
def barPay (c : Dev nD) : sProp 𝕄 := if Sends c then iprop(∃ X, Holds (peer c) iM X) else iprop(emp)
/-- What a device does not give away at the barrier: a sender's own buffer. -/
def spare (c : Dev nD) : sProp 𝕄 := if Sends c then iprop(∃ X, Holds c iM X) else iprop(emp)
def rcvPay (c : Dev nD) : sProp 𝕄 := Holds c iM (hand m (peer c))
def sndPay (c : Dev nD) : sProp 𝕄 := Holds c hM (hand m c)

instance barPay_storable (c : Dev nD) : BI.Storable (upEmb : UEmb _ 𝕄) (barPay (F := F) c) := by
  unfold barPay; split <;> infer_instance

theorem split_buffer (c : Dev nD) : iprop(∃ X, Holds c iM X) ⊢ (iprop(barPay (F := F) (peer c) ∗ spare c) : sProp 𝕄) := by
  unfold barPay spare
  rw [peer_peer]
  by_cases h : Sends c
  · rw [if_neg (fun h' => (sends_peer c).mp h' h), if_pos h]
    iintro H; isplitr; · iempintro
    iexact H
  · rw [if_pos ((sends_peer c).mpr h), if_neg h]
    iintro H; isplitl; · iexact H
    iempintro

/-- The cells some device pays, in round 0: every barrier cell, a sender's send cell, a receiver's receive cell. -/
abbrev Paid (g : GSem nD τ sig) : Prop :=
  g.1.2 = .tc ∧ (g.2 = .reg barS ∨ (g.2 = .dma sndS.sem ∧ Sends g.1.1) ∨ (g.2 = .dma rcvS.sem ∧ ¬ Sends g.1.1))

def rowRd : Rounds.Schedule (GSem nD τ sig) Unit 𝕄 where
  duties g r := if r = 0 ∧ Paid g then {()} else ∅
  unitless _ := False
  amount g _ _ := if g.2 = .reg barS then 1 else N
  payload g _ _ :=
    if g.2 = .reg barS then barPay g.1.1
    else if g.2 = .dma rcvS.sem then rcvPay m g.1.1
    else if g.2 = .dma sndS.sem then sndPay m g.1.1
    else iprop(emp)
  amount_pos g _ _ _ := by
    by_cases h : g.2 = .reg barS
    · rw [if_pos h]; exact Nat.one_pos
    · rw [if_neg h]; exact N_pos

instance rowRd_payload_storable (g : GSem nD τ sig) (r : ℕ) (d : Unit) :
    BI.Storable (upEmb : UEmb _ 𝕄) ((rowRd (F := F) m).payload g r d) := by
  show BI.Storable upEmb (if g.2 = .reg barS then barPay g.1.1 else if g.2 = .dma rcvS.sem then rcvPay m g.1.1
    else if g.2 = .dma sndS.sem then sndPay m g.1.1 else iprop(emp))
  unfold rcvPay sndPay
  (repeat' split) <;> infer_instance

section Sched
variable (c : Dev nD)

theorem snd_ne_bar : (SemLoc.dma sndS.sem : SemLoc sig) ≠ .reg barS := fun h => by cases h
theorem rcv_ne_bar : (SemLoc.dma rcvS.sem : SemLoc sig) ≠ .reg barS := fun h => by cases h
theorem snd_ne_rcv : (SemLoc.dma sndS.sem : SemLoc sig) ≠ .dma rcvS.sem := by decide

theorem paid_bar : Paid (barCell c) := ⟨rfl, .inl rfl⟩
theorem paid_snd : Paid (sndCell c) ↔ Sends c :=
  ⟨fun h => h.2.elim (fun h' => absurd h' snd_ne_bar) fun h => h.elim (fun h' => h'.2) fun h' => absurd h'.1 snd_ne_rcv,
    fun h => ⟨rfl, .inr (.inl ⟨rfl, h⟩)⟩⟩
theorem paid_rcv : Paid (rcvCell c) ↔ ¬ Sends c :=
  ⟨fun h => h.2.elim (fun h' => absurd h' rcv_ne_bar) fun h => h.elim (fun h' => absurd h'.1.symm snd_ne_rcv) fun h' => h'.2,
    fun h => ⟨rfl, .inr (.inr ⟨rfl, h⟩)⟩⟩

theorem duties_bar : (rowRd (F := F) m).duties (barCell c) 0 = {()} := by dsimp only [rowRd]; exact if_pos ⟨rfl, paid_bar c⟩
theorem duties_snd (h : Sends c) : (rowRd (F := F) m).duties (sndCell c) 0 = {()} := by dsimp only [rowRd]; exact if_pos ⟨rfl, (paid_snd c).mpr h⟩
theorem duties_rcv (h : ¬ Sends c) : (rowRd (F := F) m).duties (rcvCell c) 0 = {()} := by dsimp only [rowRd]; exact if_pos ⟨rfl, (paid_rcv c).mpr h⟩
theorem duties_later (g : GSem nD τ sig) : ∀ r, 1 ≤ r → (rowRd (F := F) m).duties g r = ∅ :=
  fun r hr => by dsimp only [rowRd]; exact if_neg fun h => by omega
theorem duties_unpaid (g : GSem nD τ sig) (h : ¬ Paid g) : ∀ r, 0 ≤ r → (rowRd (F := F) m).duties g r = ∅ :=
  fun r _ => by dsimp only [rowRd]; exact if_neg fun h' => h h'.2

theorem amount_bar (d : Unit) : (rowRd (F := F) m).amount (barCell c) 0 d = 1 := by dsimp only [rowRd]; exact if_pos rfl
theorem amount_snd (d : Unit) : (rowRd (F := F) m).amount (sndCell c) 0 d = N := by dsimp only [rowRd]; exact if_neg snd_ne_bar
theorem amount_rcv (d : Unit) : (rowRd (F := F) m).amount (rcvCell c) 0 d = N := by dsimp only [rowRd]; exact if_neg rcv_ne_bar

theorem expect_bar : (rowRd (F := F) m).expect (barCell c) 0 = 1 := by
  unfold Schedule.expect Schedule.amountOf; rw [duties_bar, Finset.sum_singleton, amount_bar]
theorem expect_snd (h : Sends c) : (rowRd (F := F) m).expect (sndCell c) 0 = N := by
  unfold Schedule.expect Schedule.amountOf; rw [duties_snd m c h, Finset.sum_singleton, amount_snd]
theorem expect_rcv (h : ¬ Sends c) : (rowRd (F := F) m).expect (rcvCell c) 0 = N := by
  unfold Schedule.expect Schedule.amountOf; rw [duties_rcv m c h, Finset.sum_singleton, amount_rcv]

theorem payload_bar (d : Unit) : (rowRd (F := F) m).payload (barCell c) 0 d = barPay c := by dsimp only [rowRd]; exact if_pos rfl
theorem payload_rcv (d : Unit) : (rowRd (F := F) m).payload (rcvCell c) 0 d = rcvPay m c := by
  dsimp only [rowRd]; rw [if_neg rcv_ne_bar, if_pos rfl]
theorem payload_snd (d : Unit) : (rowRd (F := F) m).payload (sndCell c) 0 d = sndPay m c := by
  dsimp only [rowRd]; rw [if_neg snd_ne_bar, if_neg snd_ne_rcv, if_pos rfl]

theorem rest_bar : bigSep ((rowRd (F := F) m).duties (barCell c) 0 \ ∅) (fun d => (rowRd (F := F) m).payload (barCell c) 0 d) = barPay c := by
  rw [Finset.sdiff_empty, duties_bar, bigSep_singleton, payload_bar]
theorem rest_snd (h : Sends c) : bigSep ((rowRd (F := F) m).duties (sndCell c) 0 \ ∅) (fun d => (rowRd (F := F) m).payload (sndCell c) 0 d) = sndPay m c := by
  rw [Finset.sdiff_empty, duties_snd m c h, bigSep_singleton, payload_snd]
theorem rest_rcv (h : ¬ Sends c) : bigSep ((rowRd (F := F) m).duties (rcvCell c) 0 \ ∅) (fun d => (rowRd (F := F) m).payload (rcvCell c) 0 d) = rcvPay m c := by
  rw [Finset.sdiff_empty, duties_rcv m c h, bigSep_singleton, payload_rcv]

end Sched

/-! ## What each device owes at launch, and the levels -/

/-- A sender owes its neighbour's receive cell the transfer's credit; -/
def owesXfer (c : Dev nD) : CellTallies nD τ sig Unit := if Sends c then tallyAt (rcvCell (peer c)) () N else 0
/-- every device owes its neighbour's barrier cell a unit. -/
def owes₀ (c : Dev nD) : CellTallies nD τ sig Unit := owesXfer c + tallyAt (barCell (peer c)) () 1

/-- The credit a device's receive cell expects. -/
def rcvCredit (c : Dev nD) : ℕ := if Sends c then 0 else N

def L (g : GSem nD τ sig) : Finset Unit := if g.1.2 = .tc then {()} else ∅
/-- Barrier cells at 1, receive cells at 2, all others at 0. -/
def lv (g : GSem nD τ sig) (_ : Unit) : ℕ := if g.2 = .reg barS then 1 else if g.2 = .dma rcvS.sem then 2 else 0

theorem L_of_ne (g : GSem nD τ sig) (h : g.1.2 ≠ .tc) : L g = ∅ := if_neg h
theorem L_tc (c : Dev nD) (sm : SemLoc sig) : L ((c : Thread nD τ), sm) = {()} := if_pos rfl

theorem owesXfer_pos {c : Dev nD} {g : GSem nD τ sig} {u : Unit} (h : 0 < owesXfer c g u) : g = rcvCell (peer c) := by
  unfold owesXfer at h
  split at h
  · rw [tallyAt_apply] at h
    by_contra hn
    rw [if_neg fun h' => hn h'.1] at h
    exact Nat.lt_irrefl 0 h
  · exact absurd h (Nat.lt_irrefl 0)

theorem owes₀_pos {c : Dev nD} {g : GSem nD τ sig} {u : Unit} (h : 0 < owes₀ c g u) :
    g = rcvCell (peer c) ∨ g = barCell (peer c) := by
  unfold owes₀ at h
  rw [Pi.add_apply, Finsupp.add_apply, tallyAt_apply] at h
  by_contra hn
  rw [not_or] at hn
  rw [if_neg fun h' => hn.2 h'.1, Nat.add_zero] at h
  exact hn.1 (owesXfer_pos h)

theorem mayWait_stage (c : Dev nD) (q : DmaSem sig) (hq : SemLoc.dma q ≠ .dma rcvS.sem) (O : CellTallies nD τ sig Unit) (hO : O = owes₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases owes₀_pos hg with rfl | rfl <;> exact Finset.mem_singleton_self _)
      (fun p hp => by rw [Finset.mem_singleton.mp hp]; dsimp only [lv]; rw [if_neg (fun h => by cases h), if_neg hq])
      (fun g u hg => by
        rcases owes₀_pos hg with rfl | rfl
        · dsimp only [lv]; rw [if_neg rcv_ne_bar, if_pos rfl]; decide
        · dsimp only [lv]; rw [if_pos rfl]; decide)
  · rw [MayWait_zero]; iintro -; iempintro

/-- At the barrier a device owes at most the transfer's credit, to a cell above its barrier cell. -/
theorem mayWait_bar (c : Dev nD) : (levAts L lv : sProp 𝕄) ⊢ MayWait (c : Thread nD τ) (.reg barS) () (owesXfer c) :=
  MayOwe.of_cut (L := L) (lev := lv) 1 (fun p hp => by rw [Finset.mem_singleton.mp hp, L_tc]; exact Finset.mem_singleton_self _)
    (fun g u hg => by rw [owesXfer_pos hg, L_tc]; exact Finset.mem_singleton_self _)
    (fun p hp => by rw [Finset.mem_singleton.mp hp]; dsimp only [lv]; rw [if_pos rfl])
    (fun g u hg => by rw [owesXfer_pos hg]; dsimp only [lv]; rw [if_neg rcv_ne_bar, if_pos rfl]; decide)

/-! ## What the body starts from and ends with -/

/-- A device's cells: barrier, send, receive. -/
abbrev cellSem : Fin 3 → SemLoc sig := fun | 0 => .reg barS | 1 => .dma sndS.sem | 2 => .dma rcvS.sem
abbrev cellAt (ck : Dev nD × Fin 3) : GSem nD τ sig := ((ck.1 : Thread nD τ), cellSem ck.2)

/-- The invariants device `c` opens: its own three cells', its neighbour's barrier and receive cells'. -/
def invs (K : Dev nD × Fin 3 → ℕ) (c : Dev nD) : sProp 𝕄 :=
  iprop(cellInv ER (rowRd m) (K (c, 0)) (barCell c) ∗ cellInv ER (rowRd m) (K (c, 1)) (sndCell c) ∗ cellInv ER (rowRd m) (K (c, 2)) (rcvCell c)
    ∗ cellInv ER (rowRd m) (K (peer c, 0)) (barCell (peer c)) ∗ cellInv ER (rowRd m) (K (peer c, 2)) (rcvCell (peer c)))

instance invs_persistent (K : Dev nD × Fin 3 → ℕ) (c : Dev nD) : BI.Persistent (invs m K c) := by unfold invs; infer_instance

/-- The exchange's ghost state on device `c`: the invariants, its positions, the marks of the cells it pays, the tokens
    of the duties it pays. -/
def ghost (K : Dev nD × Fin 3 → ℕ) (c : Dev nD) : sProp 𝕄 :=
  iprop(invs m K c
    ∗ atPos ER (barCell c) 0 ∅ 0 ∗ atPos ER (sndCell c) 0 ∅ 0 ∗ atPos ER (rcvCell c) 0 ∅ 0
    ∗ reached ER (barCell (peer c)) 0 ∗ reached ER (rcvCell (peer c)) 0 ∗ reached ER (sndCell c) 0
    ∗ dutyTok ER (barCell (peer c)) 0 () ∗ dutyTok ER (rcvCell (peer c)) 0 () ∗ dutyTok ER (sndCell c) 0 ())

def start (c : Dev nD) : sProp 𝕄 :=
  iprop((∃ K, ghost m K c) ∗ cred (tallyAt (barCell c) () 1) ∗ cred (tallyAt (rcvCell c) () (rcvCredit c)) ∗ levAts L lv)

/-- The three scratch buffers, at some contents. -/
def scratch (c : Dev nD) : sProp 𝕄 := iprop((∃ X, Holds c hM X) ∗ (∃ X, Holds c iM X) ∗ (∃ X, Holds c uM X))

/-- The three cells closed, their counters at zero. -/
def zeros (c : Dev nD) : sProp 𝕄 := iprop(semVal (barCell c) 0 ∗ semVal (sndCell c) 0 ∗ semVal (rcvCell c) 0)

def dats (_ : Fin 1) (c : Dev nD) : Dat τ (Elt F) Unit ℕ UU ℕ cfg0 c where
  A w := (start₀ m ρ).mem ((cfg0.win w).arr.view.loc (c : Thread nD τ))
  after w _ := match w with
    | ⟨0, _⟩ => xAt m c
    | ⟨1, _⟩ => aAt m c
    | ⟨2, _⟩ => bAt m c
    | ⟨3, _⟩ => cAt m c
    | ⟨4, _⟩ => outAt m c
  Φ t := match t with
    | ⟨0, _⟩ => iprop(start m c ∗ scratch c)
    | ⟨_ + 1, _⟩ => iprop(scratch c ∗ zeros c)
  q _ := fullShare
  owed t := match t with
    | ⟨0, _⟩ => owes₀ c
    | ⟨_ + 1, _⟩ => 0

/-! ## The transfer and the end of the cells -/

section Body

variable (K : Dev nD × Fin 3 → ℕ)

/-- The transfer from a sender to its neighbour `n`, by what the two buffers hold. -/
theorem transfer (c n : Dev nD) (hs : Sends c) (hn : n = peer c)
    {hsc : (iM : Memref sig (Dev.tc n : Thread nD τ).2.kind .vmem S8x16x512 .f32).view.ref.isScScratch = false}
    {hsrc : (hM : Memref sig .tc .vmem S8x16x512 .f32).view.WordExact} {hdst : (iM : Memref sig .tc .vmem S8x16x512 .f32).view.WordExact}
    {hsem : DmaTarget.Typed .vmem (.dma rcvS.sem) (.remote (Dev.tc n : Thread nD τ) (iM : Memref sig .tc .vmem S8x16x512 .f32) (.dma sndS.sem) hsc)}
    {α : Type} {Q : α → sProp 𝕄} {k : PUnit → Prog (TpuEff nD τ sig (Elt F) Λ₀ .tc) α} (W : Waits sig Unit) :
    iprop(cellInv ER (rowRd m) (K (c, 1)) (sndCell c) ∗ cellInv ER (rowRd m) (K (peer c, 2)) (rcvCell (peer c))
        ∗ Holds c hM (hand m c) ∗ (∃ X, Holds (peer c) iM X)
        ∗ owes (c : Thread nD τ) (tallyAt (rcvCell (peer c)) () N) W
        ∗ dutyTok ER (sndCell c) 0 () ∗ reached ER (sndCell c) 0
        ∗ dutyTok ER (rcvCell (peer c)) 0 () ∗ reached ER (rcvCell (peer c)) 0)
      ⊢ iprop(((cred (tallyAt (sndCell c) () N) ∗ owes (c : Thread nD τ) 0 W) -∗ runs c (k ⟨⟩) Q)
          -∗ runs c (.op (.enqueueDma hM (.remote (Dev.tc n : Thread nD τ) iM (.dma sndS.sem) hsc) (.dma rcvS.sem) hsrc hdst hsem) k) Q) := by
  subst hn
  iintro ⟨HI1, HI2, HH, ⟨%Y, HY⟩, HO, Ht1, Hr1, Ht2, Hr2⟩
  unfold Holds
  icases HH with ⟨%f, %hf, Hf⟩
  icases HY with ⟨%g, %hg, Hg⟩
  have hset : (hM : Memref sig .tc .vmem S8x16x512 .f32).view.set = Finset.univ := View.set_whole _
  have iset : (iM : Memref sig .tc .vmem S8x16x512 .f32).view.set = Finset.univ := View.set_whole _
  iapply (Rounds.wp_send_pointsTo 𝒱₀ ER (rowRd m) (c : Thread nD τ) none (κ₁ := K (c, 1)) (κ₂ := K (peer c, 2))
    (r₁ := 0) (r₂ := 0) (d₁ := ()) (d₂ := ()) (fs := f) (fd := g)
    (by rw [duties_snd m c hs]; exact Finset.mem_singleton_self _)
    (by rw [duties_rcv m (peer c) (fun h => (sends_peer c).mp h hs)]; exact Finset.mem_singleton_self _)
    () () N rfl (amount_snd m c ()) (amount_rcv m (peer c) ()) 0 (by rw [zero_add]) (W := W)
    (by
      rw [payload_snd]; unfold sndPay Holds
      rw [hset]
      iintro H; iexists f
      isplitr; · ipureintro; exact hf
      iexact H)
    (by
      rw [payload_rcv]; unfold rcvPay Holds
      rw [iset, peer_peer]
      iintro H; iexists _
      isplitr
      rotate_left; · iexact H
      ipureintro
      rw [View.read_write_univ]
      exact hf))
  rw [hset, iset]
  isplitl [HI1]; · iexact HI1
  isplitl [HI2]; · iexact HI2
  isplitl [Hf]; · iexact Hf
  isplitl [Hg]; · iexact Hg
  isplitl [HO]; · iexact HO
  isplitl [Ht1]; · iexact Ht1
  isplitl [Hr1]; · iexact Hr1
  isplitl [Ht2]; · iexact Ht2
  iexact Hr2

end Body

end Cert.KernelIdealRun

end
-- ==== Proof.KernelIdeal.Body.lean ====
/-
One device's kernel, stepped from its arguments and the exchange's ghost state to its result: the handshake, the eight
chunks, then the sender's transfer or the receiver's wait and correction.
-/
module

public import proofs.«01_k».proof.Proof.KernelIdeal.Exchange

@[expose] public section

noncomputable section

namespace Cert.KernelIdealRun

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem fetched (w : Fin 5) (hw : w.val < 4) : (cfg0.win w).fetch t0_0 = true := by
  fin_cases w <;> first | rfl | exact absurd hw (by decide)

section Body

variable (K : Dev nD × Fin 3 → ℕ)

def bodyPre (c : Dev nD) : sProp 𝕄 :=
  iprop((ghost m K c ∗ cred (tallyAt (barCell c) () 1) ∗ cred (tallyAt (rcvCell c) () (rcvCredit c)) ∗ levAts L lv ∗ scratch c)
    ∗ (dats m ρ 0 c).owesAt () t0_0.castSucc
    ∗ (∃ d, Holds c xM ((dats m ρ 0 c).before (0 : Fin 5) t0_0 d))
    ∗ (∃ d, Holds c aM ((dats m ρ 0 c).before (1 : Fin 5) t0_0 d))
    ∗ (∃ d, Holds c bM ((dats m ρ 0 c).before (2 : Fin 5) t0_0 d))
    ∗ (∃ d, Holds c cM ((dats m ρ 0 c).before (3 : Fin 5) t0_0 d))
    ∗ (∃ d, Holds c oM ((dats m ρ 0 c).before (4 : Fin 5) t0_0 d)))

def bodyPost (c : Dev nD) : sProp 𝕄 :=
  iprop((scratch c ∗ zeros c) ∗ (dats m ρ 0 c).owesAt () t0_0.succ
    ∗ Holds c xM (xAt m c) ∗ Holds c aM (aAt m c) ∗ Holds c bM (bAt m c) ∗ Holds c cM (cAt m c) ∗ Holds c oM (outAt m c))

theorem outAt_sends (c : Dev nD) (h : Sends c) : outAt m c = plain m c := if_pos h
theorem outAt_receives (c : Dev nD) (h : ¬ Sends c) :
    outAt m c = corrected (aAt m c) (cAt m c) (hand m (peer c)) (plain m c) 8 := if_neg h

theorem barPay_sends (c : Dev nD) (h : Sends c) : (barPay c : sProp 𝕄) = iprop(∃ X, Holds (peer c) iM X) := if_pos h
theorem spare_sends (c : Dev nD) (h : Sends c) : (spare c : sProp 𝕄) = iprop(∃ X, Holds c iM X) := if_pos h
theorem owesXfer_sends (c : Dev nD) (h : Sends c) : owesXfer c = tallyAt (rcvCell (peer c)) () N := if_pos h
theorem owesXfer_receives (c : Dev nD) (h : ¬ Sends c) : owesXfer c = 0 := if_neg h
theorem rcvCredit_receives (c : Dev nD) (h : ¬ Sends c) : rcvCredit c = N := if_neg h

set_option maxHeartbeats 2000000 in
/-- The kernel on device `c`, from `bodyPre` to `bodyPost`. -/
theorem sound_body (c : Dev nD) (Kt : PUnit → sProp 𝕄) :
    iprop(bodyPre m ρ K c ∗ (bodyPost m ρ c -∗ Kt ⟨⟩))
      ⊢ runs c (cc0_body xM (Memref.isWhole_whole _) aM (Memref.isWhole_whole _) bM (Memref.isWhole_whole _)
          cM (Memref.isWhole_whole _) oM (Memref.isWhole_whole _) hM (Memref.isWhole_whole _)
          iM (Memref.isWhole_whole _) uM (Memref.isWhole_whole _) sndS rcvS) Kt := by
  simp only [cc0_body_eq_skeleton]; unfold cc0_body_skel
  unfold bodyPre ghost invs scratch
  iintro ⟨⟨⟨⟨⟨#HIB, #HIS, #HIV, #HIBP, #HIVP⟩, HaB, HaS, HaV, #HrBP, #HrVP, #HrS, HtBP, HtVP, HtS⟩, HcB, HcV, #Hlev, ⟨Hh, Hi, ⟨%U, HU⟩⟩⟩,
    Ho, ⟨%d0, HX⟩, ⟨%d1, HA⟩, ⟨%d2, HB⟩, ⟨%d3, HC⟩, ⟨%d4, HO⟩⟩, Hk⟩
  have e0 : (dats m ρ 0 c).before (0 : Fin 5) t0_0 d0 = xAt m c := by unfold Dat.before; rw [if_pos (fetched 0 (by decide))]; rfl
  have e1 : (dats m ρ 0 c).before (1 : Fin 5) t0_0 d1 = aAt m c := by unfold Dat.before; rw [if_pos (fetched 1 (by decide))]; rfl
  have e2 : (dats m ρ 0 c).before (2 : Fin 5) t0_0 d2 = bAt m c := by unfold Dat.before; rw [if_pos (fetched 2 (by decide))]; rfl
  have e3 : (dats m ρ 0 c).before (3 : Fin 5) t0_0 d3 = cAt m c := by unfold Dat.before; rw [if_pos (fetched 3 (by decide))]; rfl
  rw [e0, e1, e2, e3]
  generalize (dats m ρ 0 c).before (4 : Fin 5) t0_0 d4 = O
  unfold Dat.owesAt Pipeline.owesWithin
  icases Ho with ⟨%W, %hW, Hw⟩
  rw [show (dats m ρ 0 c).owed t0_0.castSucc = owes₀ c from rfl]
  -- the handshake
  rw [k0_part5_eq_skeleton, runs_bind]
  unfold k0_part5_skel
  simp only [semSignalWord, semWaitWord, Prog.lift, Prog.bind_op, Prog.bind_ret, Prog.pure_eq_ret, wp_deviceId, dev1_eq c]
  unfold owes₀
  ihave Hsp := (split_buffer c) $$ Hi
  icases Hsp with ⟨Hpay, Hspare⟩
  iapply (Rounds.wp_signal 𝒱₀ ER (rowRd m) (c : Thread nD τ) none (dst := (peer c : Thread nD τ)) (κ := K (peer c, 0))
      (d := ()) (by rw [duties_bar]; exact Finset.mem_univ _) ((amount_bar m (peer c) ()).trans (by decide)) () (owesXfer c) rfl)
    $$ [Hw HtBP Hpay]
  · isplitr; · iexact HIBP
    isplitl [Hw]; · iexact Hw
    isplitl [HtBP]; · iexact HtBP
    isplitl [Hpay]; · rw [payload_bar]; iexact Hpay
    iexact HrBP
  iintro Hw
  iapply (Rounds.wp_wait_rest_token 𝒱₀ ER (rowRd m) (c : Thread nD τ) none (κ := K (c, 0))
      (wpE_semWait_eq 𝒱₀ (c : Thread nD τ) none Set.univ) (Set.mem_univ _) () (O := owesXfer c) (W := W) (R := 0) (m := 0) (T := ∅)
      (by rw [expect_bar]; decide)) $$ [HcB Hw HaB]
  · isplitr; · iexact HIB
    isplitl [HcB]; · iexact HcB
    isplitl [Hw]; · iexact Hw
    isplitr; · iapply (mayWait_bar c); iexact Hlev
    iexact HaB
  iintro ⟨Hw, HaB, -, Hpay⟩
  ihave Hbuf := (Entails.of_eq (rest_bar m c)) $$ Hpay
  -- the first chunk's products
  iapply (holds_load (aAt m c) (window_full _ _ _)) $$ HA; iintro HA
  iapply (holds_load (chunk 0 (xAt m c)) (window_chunk 0 (by decide) _ _ rfl _)) $$ HX; iintro HX
  iapply (holds_load (chunk 0 (bAt m c)) (window_chunk 0 (by decide) _ _ rfl _)) $$ HB; iintro HB
  iapply (holds_load U (window_full _ _ _)) $$ HU; iintro HU
  iapply (holds_store (inp (xAt m c) (bAt m c) 0) (by exact put_full _ _ inb_S8x64x16x512_S8x64x16x512_0_0_0_0 _)) $$ HU; iintro HU
  iapply le_wp_ret
  -- the eight chunks
  iapply (part6 c xM _ aM _ bM _ cM _ oM _ hM _ iM _ uM _ sndS rcvS (xAt m c) (aAt m c) (bAt m c) (cAt m c) O) $$ [HX HB HC HO HU]
  · isplitl [HX]; · iexact HX
    isplitl [HB]; · iexact HB
    isplitl [HC]; · iexact HC
    isplitl [HO]; · iexact HO
    iexact HU
  iintro HD
  iapply (part7 c xM _ aM _ bM _ cM _ oM _ hM _ iM _ uM _ sndS rcvS (xAt m c) (aAt m c) (bAt m c) (cAt m c) O) $$ HD
  iintro HD
  iapply (part8 c xM _ aM _ bM _ cM _ oM _ hM _ iM _ uM _ sndS rcvS (xAt m c) (aAt m c) (bAt m c) (cAt m c) O) $$ HD
  iintro HD
  iapply (part9 c xM _ aM _ bM _ cM _ oM _ hM _ iM _ uM _ sndS rcvS (xAt m c) (aAt m c) (bAt m c) (cAt m c) O) $$ HD
  iintro HD
  iapply (part10 c xM _ aM _ bM _ cM _ oM _ hM _ iM _ uM _ sndS rcvS (xAt m c) (aAt m c) (bAt m c) (cAt m c) O) $$ HD
  iintro HD
  iapply (part11 c xM _ aM _ bM _ cM _ oM _ hM _ iM _ uM _ sndS rcvS (xAt m c) (aAt m c) (bAt m c) (cAt m c) O) $$ HD
  iintro ⟨HX, HB, HC, HO, HU⟩
  simp only [Prog.lift, Prog.bind_op, Prog.bind_ret, Prog.pure_eq_ret]
  icases Hh with ⟨%H0, Hh⟩
  iapply (holds_load _ rfl) $$ HO; iintro HO
  iapply (holds_store (outAfter (xAt m c) (aAt m c) (bAt m c) (cAt m c) O 8) rfl) $$ HO; iintro HO
  iapply (holds_load _ rfl) $$ Hh; iintro Hh
  iapply (holds_store (hand m c) (by exact put_full _ _ inb_S8x16x512_S8x16x512_0_0_0 _)) $$ Hh; iintro Hh
  rw [outAfter_eq]
  simp only [cond_sends, cond_receives]
  by_cases hs : Sends c
  · -- the sender
    simp only [dif_pos hs, dif_neg (not_not_intro hs)]
    ihave Hbuf := (Entails.of_eq (barPay_sends c hs)) $$ Hbuf
    ihave Hspare := (Entails.of_eq (spare_sends c hs)) $$ Hspare
    rw [owesXfer_sends c hs]
    iapply (transfer m K c _ hs (dev2_eq c ((cond_sends c).mpr hs)) (insert (SemLoc.reg barS, ()) W)) $$ [Hh Hbuf Hw HtS HtVP]
    · isplitr; · iexact HIS
      isplitr; · iexact HIVP
      isplitl [Hh]; · iexact Hh
      isplitl [Hbuf]; · iexact Hbuf
      isplitl [Hw]; · iexact Hw
      isplitl [HtS]; · iexact HtS
      isplitr; · iexact HrS
      isplitl [HtVP]; · iexact HtVP
      iexact HrVP
    iintro ⟨HcS, Hw⟩
    iapply (Rounds.wp_wait_rest_token 𝒱₀ ER (rowRd m) (c : Thread nD τ) none (κ := K (c, 1))
        (wpE_waitDma2_eq 𝒱₀ (c : Thread nD τ) none Set.univ) (Set.mem_univ _) () (O := 0) (W := insert (SemLoc.reg barS, ()) W) (R := 0) (m := 0) (T := ∅)
        (by rw [Nat.zero_add, expect_snd m c hs])) $$ [HcS Hw HaS]
    · isplitr; · iexact HIS
      isplitl [HcS]; · iexact HcS
      isplitl [Hw]; · iexact Hw
      isplitr; · rw [MayWait_zero]; iempintro
      iexact HaS
    iintro ⟨Hw, HaS, -, Hpay⟩
    ihave Hh := (Entails.of_eq (rest_snd m c hs)) $$ Hpay
    unfold sndPay
    imod (Rounds.cell_close ER (rowRd m) (Set.mem_univ (K (c, 0))) (fun h => h) (R := 0 + 1) (duties_later m (barCell c))) $$ [HaB] with HzB
    · isplitr; · iexact HIB
      iexact HaB
    imod (Rounds.cell_close ER (rowRd m) (Set.mem_univ (K (c, 1))) (fun h => h) (R := 0 + 1) (duties_later m (sndCell c))) $$ [HaS] with HzS
    · isplitr; · iexact HIS
      iexact HaS
    imod (Rounds.cell_close ER (rowRd m) (Set.mem_univ (K (c, 2))) (fun h => h) (R := 0) (duties_unpaid m (rcvCell c) (fun h => (paid_rcv c).mp h hs))) $$ [HaV] with HzV
    · isplitr; · iexact HIV
      iexact HaV
    iapply le_wp_ret
    iapply Hk
    unfold bodyPost scratch zeros Dat.owesAt Pipeline.owesWithin
    rw [show (dats m ρ 0 c).owed t0_0.succ = 0 from rfl, outAt_sends m c hs]
    isplitl [Hh Hspare HU HzB HzS HzV]
    · isplitl [Hh Hspare HU]
      · isplitl [Hh]; · iexists _; iexact Hh
        isplitl [Hspare]; · iexact Hspare
        iexists _; iexact HU
      isplitl [HzB]; · iexact HzB
      isplitl [HzS] <;> iassumption
    isplitl [Hw]
    · iexists (insert (SemLoc.dma sndS.sem, ()) (insert (SemLoc.reg barS, ()) W))
      isplitr; · ipureintro; exact fun _ _ => Or.inl trivial
      iexact Hw
    isplitl [HX]; · iexact HX
    isplitl [HA]; · iexact HA
    isplitl [HB]; · iexact HB
    isplitl [HC]; · iexact HC
    iexact HO
  · -- the receiver
    simp only [dif_neg hs, dif_pos hs]
    rw [k0_part1_eq_skeleton]
    unfold k0_part1_skel
    simp only [Prog.lift, Prog.bind_op, Prog.bind_ret, Prog.pure_eq_ret]
    rw [owesXfer_receives c hs, rcvCredit_receives c hs]
    iapply (Rounds.wp_wait_rest_token 𝒱₀ ER (rowRd m) (c : Thread nD τ) none (κ := K (c, 2))
        (wpE_waitDma2_eq 𝒱₀ (c : Thread nD τ) none Set.univ) (Set.mem_univ _) () (O := 0) (W := insert (SemLoc.reg barS, ()) W) (R := 0) (m := 0) (T := ∅)
        (by rw [Nat.zero_add, expect_rcv m c hs])) $$ [HcV Hw HaV]
    · isplitr; · iexact HIV
      isplitl [HcV]; · iexact HcV
      isplitl [Hw]; · iexact Hw
      isplitr; · rw [MayWait_zero]; iempintro
      iexact HaV
    iintro ⟨Hw, HaV, -, Hpay⟩
    ihave Hi := (Entails.of_eq (rest_rcv m c hs)) $$ Hpay
    unfold rcvPay
    imod (Rounds.cell_close ER (rowRd m) (Set.mem_univ (K (c, 0))) (fun h => h) (R := 0 + 1) (duties_later m (barCell c))) $$ [HaB] with HzB
    · isplitr; · iexact HIB
      iexact HaB
    imod (Rounds.cell_close ER (rowRd m) (Set.mem_univ (K (c, 1))) (fun h => h) (R := 0) (duties_unpaid m (sndCell c) (fun h => hs ((paid_snd c).mp h)))) $$ [HaS] with HzS
    · isplitr; · iexact HIS
      iexact HaS
    imod (Rounds.cell_close ER (rowRd m) (Set.mem_univ (K (c, 2))) (fun h => h) (R := 0 + 1) (duties_later m (rcvCell c))) $$ [HaV] with HzV
    · isplitr; · iexact HIV
      iexact HaV
    iapply (holds_load (aAt m c) (window_full _ _ _)) $$ HA; iintro HA
    iapply (holds_load (batch 64 0 (by decide) (cAt m c)) (window_batch 64 0 (by decide) (by decide) (by decide) _ _ rfl _)) $$ HC; iintro HC
    iapply (holds_load (batch 16 0 (by decide) (hand m (peer c))) (window_batch 16 0 (by decide) (by decide) (by decide) _ _ rfl _)) $$ Hi; iintro Hi
    iapply (holds_load (batch 64 0 (by decide) (plain m c)) (window_batch 64 0 (by decide) (by decide) (by decide) _ _ rfl _)) $$ HO; iintro HO
    iapply (holds_load _ rfl) $$ HO; iintro HO
    iapply (holds_store (corrected (aAt m c) (cAt m c) (hand m (peer c)) (plain m c) 1) rfl) $$ HO; iintro HO
    iapply (holds_load (batch 64 1 (by decide) (cAt m c)) (window_batch 64 1 (by decide) (by decide) (by decide) _ _ rfl _)) $$ HC; iintro HC
    iapply (part2 c xM _ aM _ bM _ cM _ oM _ hM _ iM _ uM _ sndS rcvS (aAt m c) (cAt m c) (plain m c) (hand m (peer c))) $$ [HC Hi HO]
    · isplitl [HC]; · iexact HC
      isplitl [Hi]; · iexact Hi
      iexact HO
    iintro HD
    iapply (part3 c xM _ aM _ bM _ cM _ oM _ hM _ iM _ uM _ sndS rcvS (aAt m c) (cAt m c) (plain m c) (hand m (peer c))) $$ HD
    iintro HD
    iapply (part4 c xM _ aM _ bM _ cM _ oM _ hM _ iM _ uM _ sndS rcvS (aAt m c) (cAt m c) (plain m c) (hand m (peer c))) $$ HD
    iintro ⟨HC, Hi, HO⟩
    iapply (holds_load (batch 64 7 (by decide) (cAt m c)) (window_batch 64 7 (by decide) (by decide) (by decide) _ _ rfl _)) $$ HC; iintro HC
    iapply (holds_load (batch 16 7 (by decide) (hand m (peer c))) (window_batch 16 7 (by decide) (by decide) (by decide) _ _ rfl _)) $$ Hi; iintro Hi
    iapply (holds_load (batch 64 7 (by decide) (corrected (aAt m c) (cAt m c) (hand m (peer c)) (plain m c) 7)) (window_batch 64 7 (by decide) (by decide) (by decide) _ _ rfl _)) $$ HO; iintro HO
    iapply (holds_load _ rfl) $$ HO; iintro HO
    iapply (holds_store (corrected (aAt m c) (cAt m c) (hand m (peer c)) (plain m c) 8) rfl) $$ HO; iintro HO
    iapply le_wp_ret
    iapply Hk
    unfold bodyPost scratch zeros Dat.owesAt Pipeline.owesWithin
    rw [show (dats m ρ 0 c).owed t0_0.succ = 0 from rfl, outAt_receives m c hs]
    isplitl [Hh Hi HU HzB HzS HzV]
    · isplitl [Hh Hi HU]
      · isplitl [Hh]; · iexists _; iexact Hh
        isplitl [Hi]; · iexists _; iexact Hi
        iexists _; iexact HU
      isplitl [HzB]; · iexact HzB
      isplitl [HzS] <;> iassumption
    isplitl [Hw]
    · iexists (insert (SemLoc.dma rcvS.sem, ()) (insert (SemLoc.reg barS, ()) W))
      isplitr; · ipureintro; exact fun _ _ => Or.inl trivial
      iexact Hw
    isplitl [HX]; · iexact HX
    isplitl [HA]; · iexact HA
    isplitl [HB]; · iexact HB
    isplitl [HC]; · iexact HC
    iexact HO

/-- A buffer as the pipeline states it, as `Holds` does. -/
theorem owns_whole (c : Dev nD) (b : Ref sig .tc) (X : b.ty.Contents (Elt F)) :
    (owns (Ix := Unit) (Name := ℕ) (U := UU) (Lvl := ℕ) (c : Thread nD τ) (Memref.whole b) fullShare X : sProp 𝕄) = Holds c (Memref.whole b) X := by
  unfold owns Holds; simp only [Memref.view_whole, View.read_whole, View.set_whole]

set_option maxRecDepth 4000 in
/-- The pipeline's obligation on device `c`. -/
theorem body_obligation (c : Dev nD) : BodyObligation (dats (F := F) m ρ 0 c) (defs₀ (F := F)) 𝒱₀ () Set.univ := fun t => by
  rw [fin_N0 t]
  rw [bigSep_W0, bigSep_W0]
  simp only [owns_whole]
  show iprop((start m c ∗ scratch c) ∗ (dats m ρ 0 c).owesAt () t0_0.castSucc
    ∗ (∃ d, Holds c xM ((dats m ρ 0 c).before (0 : Fin 5) t0_0 d))
    ∗ (∃ d, Holds c aM ((dats m ρ 0 c).before (1 : Fin 5) t0_0 d))
    ∗ (∃ d, Holds c bM ((dats m ρ 0 c).before (2 : Fin 5) t0_0 d))
    ∗ (∃ d, Holds c cM ((dats m ρ 0 c).before (3 : Fin 5) t0_0 d))
    ∗ (∃ d, Holds c oM ((dats m ρ 0 c).before (4 : Fin 5) t0_0 d)))
    ⊢ runs c (cc0_body xM (Memref.isWhole_whole _) aM (Memref.isWhole_whole _) bM (Memref.isWhole_whole _)
          cM (Memref.isWhole_whole _) oM (Memref.isWhole_whole _) hM (Memref.isWhole_whole _)
          iM (Memref.isWhole_whole _) uM (Memref.isWhole_whole _) sndS rcvS) (fun _ => bodyPost m ρ c)
  unfold start
  iintro ⟨⟨⟨⟨%K, Hg⟩, Hc1, Hc2, Hl⟩, Hscr⟩, Ho, Hrest⟩
  iapply (sound_body m ρ K c fun _ => bodyPost m ρ c)
  unfold bodyPre
  isplitr []
  · isplitl [Hg Hc1 Hc2 Hl Hscr]
    · isplitl [Hg]; · iexact Hg
      isplitl [Hc1]; · iexact Hc1
      isplitl [Hc2]; · iexact Hc2
      isplitl [Hl]; · iexact Hl
      iexact Hscr
    isplitl [Ho]; · iexact Ho
    iexact Hrest
  · iintro H; iexact H

end Body

end Cert.KernelIdealRun

end
-- ==== Proof.KernelIdeal.Run.lean ====
/-
The run of the four devices' kernels together: the exchange's ghost state dealt out at launch, then the pipeline
library's theorem for one region whose bodies talk to each other.
-/
module

public import proofs.«01_k».proof.Proof.KernelIdeal.Body
public import Idealize.ShloMosaic.Lib.Pipeline.CollectiveSegs

@[expose] public section

noncomputable section

namespace Cert.KernelIdealRun

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The ghost state at launch -/

/-- The kernel's own semaphores: send, receive. -/
abbrev ownSem : Fin 2 → SemLoc sig := fun | 0 => .dma sndS.sem | 1 => .dma rcvS.sem

theorem ownSemFacts : Pipeline.OwnSemFacts cfg0.spec ownSem := by decide

theorem share_eq (c : Dev nD) (w : Fin cfg0.W) : (dats m ρ 0 c).share w = fullShare := by unfold Dat.share; split <;> rfl

theorem cellAt_injective : Function.Injective (cellAt : Dev nD × Fin 3 → GSem nD τ sig) := by
  rintro ⟨c, k⟩ ⟨c', k'⟩ h
  have h1 : c = c' := by have := congrArg (fun g : GSem nD τ sig => g.1.1) h; exact this
  subst h1
  have h2 : cellSem k = cellSem k' := congrArg Prod.snd h
  have : k = k' := by fin_cases k <;> fin_cases k' <;> first | rfl | exact absurd h2 (by decide)
  subst this; rfl

def rowCells : Finset (GSem nD τ sig) := Finset.univ.map ⟨cellAt, cellAt_injective⟩

/-- One duty token for each cell. -/
abbrev tokenAt (ck : Dev nD × Fin 3) : GSem nD τ sig × ℕ × Unit := (cellAt ck, 0, ())
theorem tokenAt_injective : Function.Injective (tokenAt : Dev nD × Fin 3 → GSem nD τ sig × ℕ × Unit) :=
  fun a b h => cellAt_injective (congrArg (fun x : GSem nD τ sig × ℕ × Unit => x.1) h)
def rowToks : Finset (GSem nD τ sig × ℕ × Unit) := Finset.univ.map ⟨tokenAt, tokenAt_injective⟩

def u₀ : UU :=
  (initOf (Pipeline.cells cfgs cellOf_inj) (Pipeline.launchToks cfgs cellOf_inj), initOf rowCells rowToks)

/-- The duty tokens of device `c`'s own cells. -/
def toks (c : Dev nD) : sProp 𝕄 := iprop(dutyTok ER (barCell c) 0 () ∗ dutyTok ER (sndCell c) 0 () ∗ dutyTok ER (rcvCell c) 0 ())

/-- What the launch deals device `c`. -/
def dealt (c : Dev nD) : sProp 𝕄 :=
  iprop((bigSep Finset.univ fun k : Fin 3 => roundState ER (rowRd m) (cellAt (c, k)) 0)
    ∗ (bigSep Finset.univ fun k : Fin 3 => iprop(atPos ER (cellAt (c, k)) 0 ∅ 0 ∗ reached ER (cellAt (c, k)) 0)) ∗ toks c)

/-- What the exchange of invariants and tokens makes of it. -/
def ready (c : Dev nD) : sProp 𝕄 := iprop(∃ K, ghost m K c)

theorem bigSep_fin3 (Φ : Fin 3 → sProp 𝕄) : bigSep Finset.univ Φ = iprop(Φ 0 ∗ Φ 1 ∗ Φ 2) := bigSep_univ_eq_bigSepL [0, 1, 2] (by decide) (by decide) Φ

theorem fund_row : BI.own (ER (initOf rowCells rowToks)) ⊢ (|==> bigSep Finset.univ (dealt m) : sProp 𝕄) := by
  have hX (Φ : GSem nD τ sig → sProp 𝕄) : bigSep rowCells Φ = bigSep Finset.univ fun c : Dev nD => bigSep Finset.univ fun k : Fin 3 => Φ (cellAt (c, k)) := by
    unfold rowCells; rw [bigSep_map, bigSep_univ_prod]; rfl
  have hT : bigSep rowToks (fun x => (dutyTok ER x.1 x.2.1 x.2.2 : sProp 𝕄)) = bigSep Finset.univ fun c : Dev nD => toks c := by
    unfold rowToks; rw [bigSep_map, bigSep_univ_prod]
    exact bigSep_congr fun c _ => by unfold toks; rw [bigSep_fin3]; rfl
  iintro HX
  imod (Rounds.fund ER (rowRd m) rowCells rowToks) $$ HX with ⟨Hst, Hr, Hat, Htok⟩
  imodintro
  ihave Hst' := (Entails.of_eq (hX fun g => roundState ER (rowRd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold dealt; simp only [bigSep_sep']
  isplitl [Hst']; · iexact Hst'
  isplitl [Hat' Hr']
  · isplitl [Hat'] <;> iassumption
  iexact Htok'

theorem ownSems0_eq (c : Dev nD) : (Pipeline.ownSems0 (Ix := Unit) (Name := ℕ) (U := UU) (Lvl := ℕ) (Val := Elt F) (τ := τ) ownSem c : sProp 𝕄)
    = iprop(semVal (sndCell c) 0 ∗ semVal (rcvCell c) 0) := by
  rw [Pipeline.ownSems0_eq_of_list c ownSem [0, 1] (by decide) (by decide)]; rfl
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) ownSem c ∗ unscopedSems0 c)
      ⊢ (bigSep Finset.univ fun k : Fin 3 => semVal (cellAt (c, k)) 0 : sProp 𝕄) := by
  rw [ownSems0_eq, unscopedSems0_eq, bigSep_fin3]
  iintro ⟨⟨HS, HV⟩, HB⟩
  isplitl [HB]; · iexact HB
  isplitl [HS] <;> iassumption

theorem core_alloc (c : Dev nD) :
    iprop(Pipeline.ownSems0 (Ix := Unit) (Name := ℕ) (U := UU) (Lvl := ℕ) (Val := Elt F) (τ := τ) ownSem c ∗ unscopedSems0 c ∗ dealt m c)
      ⊢ |={Set.univ}=> iprop((bigSep Finset.univ fun k => iprop(∃ κ : ℕ, cellInv ER (rowRd m) κ (cellAt (c, k))))
          ∗ (bigSep Finset.univ fun k => iprop(atPos ER (cellAt (c, k)) 0 ∅ 0 ∗ reached ER (cellAt (c, k)) 0)) ∗ toks c) := by
  unfold dealt
  iintro ⟨Hos, Hus, Hst, Hat, Htok⟩
  ihave Hv := (sems0_eq (F := F) c) $$ [Hos Hus]
  · isplitl [Hos] <;> iassumption
  imod (show iprop((bigSep Finset.univ fun k : Fin 3 => semVal (cellAt (c, k)) 0) ∗ bigSep Finset.univ fun k : Fin 3 => roundState ER (rowRd m) (cellAt (c, k)) 0)
      ⊢ (|={Set.univ}=> bigSep Finset.univ fun k => iprop(∃ κ : ℕ, cellInv ER (rowRd m) κ (cellAt (c, k))) : sProp 𝕄) from by
        rw [← bigSep_sep']
        exact (bigSep_mono fun k _ => (Rounds.body_intro ER (rowRd m) (cellAt (c, k))).trans inv_alloc).trans (bigSep_fupd _ _)) $$ [Hv Hst] with Hinv
  · isplitl [Hv] <;> iassumption
  imodintro
  isplitl [Hinv]; · iexact Hinv
  isplitl [Hat]; · iexact Hat
  iexact Htok

/-- Every cell's invariant and mark. -/
def records (K : Dev nD × Fin 3 → ℕ) : sProp 𝕄 :=
  iprop((bigSep Finset.univ fun ck : Dev nD × Fin 3 => cellInv ER (rowRd m) (K ck) (cellAt ck))
    ∗ bigSep Finset.univ fun ck : Dev nD × Fin 3 => reached ER (cellAt ck) 0)

instance records_persistent (K : Dev nD × Fin 3 → ℕ) : BI.Persistent (records m K) := by unfold records; infer_instance

theorem inv_of (K : Dev nD × Fin 3 → ℕ) (ck : Dev nD × Fin 3) :
    (bigSep Finset.univ fun ck : Dev nD × Fin 3 => (cellInv ER (rowRd m) (K ck) (cellAt ck) : sProp 𝕄)) ⊢ cellInv ER (rowRd m) (K ck) (cellAt ck) :=
  bigSep_elim (Finset.mem_univ ck)
theorem mark_of (ck : Dev nD × Fin 3) :
    (bigSep Finset.univ fun ck : Dev nD × Fin 3 => (reached ER (cellAt ck) 0 : sProp 𝕄)) ⊢ reached ER (cellAt ck) 0 :=
  bigSep_elim (Finset.mem_univ ck)

/-- The tokens of the duties device `c` pays. -/
def payToks (c : Dev nD) : sProp 𝕄 :=
  iprop(dutyTok ER (barCell (peer c)) 0 () ∗ dutyTok ER (rcvCell (peer c)) 0 () ∗ dutyTok ER (sndCell c) 0 ())
def keeps (c : Dev nD) : sProp 𝕄 :=
  iprop((atPos ER (barCell c) 0 ∅ 0 ∗ atPos ER (sndCell c) 0 ∅ 0 ∗ atPos ER (rcvCell c) 0 ∅ 0) ∗ payToks c)

theorem ready_intro (K : Dev nD × Fin 3 → ℕ) (c : Dev nD) : iprop(records m K ∗ keeps c) ⊢ ready m c := by
  unfold records keeps payToks ready ghost invs
  iintro ⟨⟨#HI, #HR⟩, ⟨HaB, HaS, HaV⟩, Ht⟩
  iexists K
  isplitr
  · isplitr; · iapply (inv_of m K (c, 0)); iexact HI
    isplitr; · iapply (inv_of m K (c, 1)); iexact HI
    isplitr; · iapply (inv_of m K (c, 2)); iexact HI
    isplitr; · iapply (inv_of m K (peer c, 0)); iexact HI
    iapply (inv_of m K (peer c, 2)); iexact HI
  isplitl [HaB]; · iexact HaB
  isplitl [HaS]; · iexact HaS
  isplitl [HaV]; · iexact HaV
  isplitr; · iapply (mark_of (F := F) (peer c, 0)); iexact HR
  isplitr; · iapply (mark_of (F := F) (peer c, 2)); iexact HR
  isplitr; · iapply (mark_of (F := F) (c, 1)); iexact HR
  iexact Ht

/-- The barrier's and the receive cell's tokens go to the neighbour. -/
theorem toks_swapped : (bigSep Finset.univ fun c : Dev nD => (toks c : sProp 𝕄)) ⊢ bigSep Finset.univ fun c : Dev nD => payToks c := by
  unfold toks payToks
  rw [bigSep_sep', bigSep_sep', bigSep_sep', bigSep_sep',
    bigSep_univ_equiv swap (fun c : Dev nD => (dutyTok ER (barCell c) 0 () : sProp 𝕄)),
    bigSep_univ_equiv swap (fun c : Dev nD => (dutyTok ER (rcvCell c) 0 () : sProp 𝕄))]
  iintro ⟨H1, H2, H3⟩
  isplitl [H1]; · iexact H1
  isplitl [H3]; · iexact H3
  iexact H2

theorem bigSep_with {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (rowRd m) κ (cellAt (c, k))))
          ∗ (bigSep Finset.univ fun k => iprop(atPos ER (cellAt (c, k)) 0 ∅ 0 ∗ reached ER (cellAt (c, k)) 0)) ∗ toks c) : sProp 𝕄)
      ⊢ bigSep Finset.univ (ready m) := by
  rw [bigSep_sep', bigSep_sep', ← bigSep_univ_prod (fun ck : Dev nD × Fin 3 => iprop(∃ κ : ℕ, cellInv ER (rowRd m) κ (cellAt ck))),
    bigSep_congr (s := Finset.univ) (fun (c : Dev nD) _ => bigSep_sep' Finset.univ (fun k : Fin 3 => (atPos ER (cellAt (c, k)) 0 ∅ 0 : sProp 𝕄)) (fun k => reached ER (cellAt (c, k)) 0)),
    bigSep_sep', ← bigSep_univ_prod (fun ck : Dev nD × Fin 3 => (reached ER (cellAt ck) 0 : sProp 𝕄))]
  iintro ⟨HI, ⟨Hat, #HR⟩, Htok⟩
  ihave HK := (BI.bigSep_exists_pi Finset.univ (fun (ck : Dev nD × Fin 3) (κ : ℕ) => (cellInv ER (rowRd m) κ (cellAt ck) : sProp 𝕄))) $$ HI
  icases HK with ⟨%K, #HI⟩
  ihave Htk := (toks_swapped (F := F)) $$ Htok
  iapply (bigSep_with (R := records m K) fun c _ => ready_intro m K c)
  isplitr
  · unfold records; isplitl; · iexact HI
    iexact HR
  · iapply ((Entails.of_eq (bigSep_sep' Finset.univ (fun c : Dev nD => bigSep Finset.univ fun k : Fin 3 => (atPos ER (cellAt (c, k)) 0 ∅ 0 : sProp 𝕄)) payToks).symm).trans
      (bigSep_mono fun c _ => show _ ⊢ keeps c from Entails.of_eq (by unfold keeps; rw [bigSep_fin3])))
    isplitl [Hat]; · iexact Hat
    iexact Htk

theorem all_ready : (bigSep Finset.univ fun c => iprop(Pipeline.ownSems0 (Ix := Unit) (Name := ℕ) (U := UU) (Lvl := ℕ) (Val := Elt F) (τ := τ) ownSem c ∗ unscopedSems0 c ∗ dealt m c) : sProp 𝕄)
    ⊢ |={Set.univ}=> bigSep Finset.univ (ready m) :=
  ((bigSep_mono fun c _ => core_alloc m c).trans (bigSep_fupd _ _)).trans (BI.fupd_mono (regroup m))

/-! ## The credit at launch -/

theorem barCell_inj {a b : Dev nD} (h : barCell a = barCell b) : a = b := congrArg (fun g : GSem nD τ sig => g.1.1) h
theorem rcvCell_inj {a b : Dev nD} (h : rcvCell a = rcvCell b) : a = b := congrArg (fun g : GSem nD τ sig => g.1.1) h

/-- Only its neighbour owes a device's barrier cell; -/
theorem owed_bar (d c : Dev nD) : owes₀ d (barCell c) () = if d = peer c then 1 else 0 := by
  have h0 : owesXfer d (barCell c) () = 0 := by
    by_contra h
    exact rcv_ne_bar (congrArg Prod.snd (owesXfer_pos (Nat.pos_of_ne_zero h))).symm
  unfold owes₀
  rw [Pi.add_apply, Finsupp.add_apply, h0, Nat.zero_add, tallyAt_apply]
  by_cases h : d = peer c
  · subst h; rw [peer_peer, if_pos ⟨rfl, rfl⟩, if_pos rfl]
  · rw [if_neg (fun ⟨h1, _⟩ => h (by rw [← peer_peer d]; exact congrArg peer (barCell_inj h1).symm)), if_neg h]

/-- and, when that neighbour sends, its receive cell. -/
theorem owed_rcv (d c : Dev nD) : owes₀ d (rcvCell c) () = if d = peer c then rcvCredit c else 0 := by
  unfold owes₀
  rw [Pi.add_apply, Finsupp.add_apply, tallyAt_ne_cell (fun h => rcv_ne_bar (congrArg Prod.snd h)), Finsupp.zero_apply, Nat.add_zero]
  by_cases h : d = peer c
  · subst h
    rw [if_pos rfl]
    unfold owesXfer rcvCredit
    rw [peer_peer]
    by_cases hs : Sends c
    · rw [if_pos hs, if_neg (fun h' => (sends_peer c).mp h' hs)]; rfl
    · rw [if_neg hs, if_pos ((sends_peer c).mpr hs), tallyAt_apply, if_pos ⟨rfl, rfl⟩]
  · rw [if_neg h]
    by_contra hn
    exact h (by rw [← peer_peer d]; exact congrArg peer (rcvCell_inj (owesXfer_pos (Nat.pos_of_ne_zero hn))).symm)

theorem launch_bar (c : Dev nD) :
    tallyOn (barCell c) (launchCredit (Pipeline.owing owes₀) 0 (barCell c)) = (tallyAt (barCell c) () 1 : CellTallies nD τ sig Unit) := by
  unfold tallyAt; refine congrArg _ (Finsupp.ext fun u => ?_); cases u
  rw [Pipeline.launchCredit_owing, Finsupp.single_eq_same, Finset.sum_congr rfl fun d _ => owed_bar d c,
    Finset.sum_ite_eq' Finset.univ (peer c) fun _ => 1, if_pos (Finset.mem_univ _)]

theorem launch_rcv (c : Dev nD) :
    tallyOn (rcvCell c) (launchCredit (Pipeline.owing owes₀) 0 (rcvCell c)) = (tallyAt (rcvCell c) () (rcvCredit c) : CellTallies nD τ sig Unit) := by
  unfold tallyAt; refine congrArg _ (Finsupp.ext fun u => ?_); cases u
  rw [Pipeline.launchCredit_owing, Finsupp.single_eq_same, Finset.sum_congr rfl fun d _ => owed_rcv d c,
    Finset.sum_ite_eq' Finset.univ (peer c) fun _ => rcvCredit c, if_pos (Finset.mem_univ _)]

theorem creds (c : Dev nD) :
    (Pipeline.launchCred owes₀ c : sProp 𝕄) ⊢ iprop(cred (tallyAt (barCell c) () 1) ∗ cred (tallyAt (rcvCell c) () (rcvCredit c))) := by
  unfold Pipeline.launchCred
  rw [bigSep_univ_at _ (SemLoc.reg barS), launch_bar]
  refine sep_mono_right ?_
  rw [← launch_rcv]
  exact bigSep_elim (Finset.mem_erase.mpr ⟨rcv_ne_bar, Finset.mem_univ _⟩)

/-! ## Entry and exit -/

theorem start_intro (c : Dev nD) :
    iprop(Pipeline.unscopedRestP Pipeline.Prefetch.none cfg0.spec c (fun b => m ((c : Thread nD τ).loc b)) ∗ levAts L lv
        ∗ Pipeline.launchCred owes₀ c ∗ prngReg c (ρ c) ∗ ready m c)
      ⊢ |={Set.univ}=> iprop(start m c ∗ emp) := by
  iintro ⟨-, Hlev, Hcr, -, HG⟩
  ihave Hc := (creds (F := F) c) $$ Hcr
  icases Hc with ⟨H1, HN⟩
  imodintro
  unfold start ready
  isplitl
  · isplitl [HG]; · iexact HG
    isplitl [H1]; · iexact H1
    isplitl [HN]; · iexact HN
    iexact Hlev
  · iempintro

/-- A whole buffer at some contents. -/
theorem some_whole (c : Dev nD) (b : Ref sig .tc) :
    (iprop(∃ X, Holds c (Memref.whole b) X) : sProp 𝕄)
      = iprop(∃ f : Buf (Elt F) (((c : Dev nD) : Thread nD τ).loc b), ((c : Thread nD τ).loc b) ↦{fullShare} f) := by
  have h1 : (iprop(∃ X, Holds c (Memref.whole b) X) : sProp 𝕄)
      ⊢ iprop(∃ f : Buf (Elt F) (((c : Dev nD) : Thread nD τ).loc b), ((c : Thread nD τ).loc b) ↦{fullShare} f) := by
    iintro ⟨%X, H⟩
    ihave H := (Entails.of_eq (holds_whole c b X)) $$ H
    icases H with ⟨%f, %hf, H⟩
    iexists f; iexact H
  have h2 : (iprop(∃ f : Buf (Elt F) (((c : Dev nD) : Thread nD τ).loc b), ((c : Thread nD τ).loc b) ↦{fullShare} f) : sProp 𝕄)
      ⊢ iprop(∃ X, Holds c (Memref.whole b) X) := by
    iintro ⟨%f, H⟩
    iexists f
    iapply (Entails.of_eq (holds_whole c b f).symm)
    iexists f; isplitr; · (ipureintro; rfl)
    iexact H
  exact BI.Entails.antisymm h1 h2

theorem scratch_eq (c : Dev nD) : (scratch c : sProp 𝕄) = Pipeline.scopedRest cfg0.spec c := by
  rw [scopedRest0_eq]; unfold scratch
  exact congrArg₂ _ (some_whole c cc0_scratch0) (congrArg₂ _ (some_whole c cc0_scratch1) (some_whole c cc0_scratch2))

theorem enter (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = iprop(start m c ∗ scratch c) from rfl, scratch_eq]
  iintro ⟨Hs, -, Hr⟩
  isplitl [Hs] <;> iassumption

theorem leave (c : Dev nD) :
    (dats m ρ 0 c).Φ (Fin.last cfg0.N) ⊢ iprop(unscopedSems0 c ∗ Pipeline.ownSems0 ownSem c ∗ Pipeline.scopedRest cfg0.spec c) := by
  rw [show (dats m ρ 0 c).Φ (Fin.last cfg0.N) = iprop(scratch c ∗ zeros c) from rfl, scratch_eq, ownSems0_eq, unscopedSems0_eq]
  unfold zeros
  iintro ⟨Hr, HzB, HzS, HzV⟩
  isplitl [HzB]; · iexact HzB
  isplitl [HzS HzV]
  · isplitl [HzS] <;> iassumption
  iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

def finalAt (c : Dev nD) (w : Fin cfg0.W) : Buf (Elt F) ((cfg0.win w).arr.view.loc (c : Thread nD τ)) := (dats m ρ 0 c).arrAt w cfg0.N

def Finals : PUnit × MemSt nD τ sig (Elt F) → Prop := fun r =>
  ∀ c : Dev nD, ∀ w : Fin cfg0.W, r.2.mem ((cfg0.win w).arr.view.loc (c : Thread nD τ)) = finalAt m ρ c w

set_option maxRecDepth 8000 in
/-- From any memory with zero counters, every weakly fair run of @main on the four devices ends, with every device's arrays
    at the computed contents and every counter at zero. -/
theorem run_main : θ_run defs (onTc (τ := τ) (main (F := F))) (start₀ m ρ) (fun r => Finals m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := owes₀) (howed₀ := fun _ => rfl) (howedN := fun _ => rfl)
    (L := L) (lv := lv) (hL := L_of_ne) (hwaits := waits m ρ)
    (G := dealt m) (G' := ready m) (u₀ := u₀)
    (hu₀ := by
      unfold u₀
      iintro Hu
      ihave H := (ownU_pair _ _) $$ Hu
      icases H with ⟨HP, HX⟩
      imod (fund_row m) $$ HX with HG
      imodintro
      isplitl [HP] <;> iassumption)
    (hglob := all_ready m)
    (hA := fun _ _ => rfl) (hpf := fun _ k => k.elim0)
    (X := start m) (Y := fun c => unscopedSems0 c) (Z := fun _ => iprop(emp))
    (hX := start_intro m ρ) (hin := enter m ρ) (hout := leave m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- An argument's array holds after the run what it held. -/
theorem final_arg (c : Dev nD) (w : Fin cfg0.W) (hw : w.val < 4) : finalAt m ρ c w = (start₀ m ρ).mem ((cfg0.win w).arr.view.loc (c : Thread nD τ)) :=
  (dats (F := F) m ρ 0 c).arrAt_in w (by fin_cases w <;> first | rfl | exact absurd hw (by decide)) _

/-- The result's array holds the body's result. -/
theorem final_out (c : Dev nD) : finalAt m ρ c (4 : Fin 5) = outAt m c := by
  have h : (win0_4.blk (0 : Fin 1)).view.read (Elt F) (finalAt m ρ c (4 : Fin 5)) = outAt m c := by
    unfold finalAt
    rw [show cfg0.N = ((0 : Fin 1) : Fin cfg0.N).val + 1 from rfl, (dats m ρ 0 c).arrAt_succ (4 : Fin 5) (0 : Fin 1)]
    rw [show (cfg0.win (4 : Fin 5)).flush (0 : Fin 1) = true from by decide, if_pos rfl]
    exact View.read_write_univ _ _
  have hz : (fun a => (win0_4.index (0 : Fin 1)) a * main_v1.ty.shape.size a) = fun _ => 0 := funext fun a => by fin_cases a <;> decide
  rw [← h]
  exact (Memref.read_access_unit_zero (Elt F) main_v1 hz (fun a => by fin_cases a <;> decide) _).symm

/-- A device's arguments as staged are what memory holds. -/
theorem xAt_eq (c : Dev nD) : xAt m c = m ((c : Thread nD τ).loc main_arg0) :=
  Memref.read_access_unit_zero (Elt F) main_arg0 (funext fun a => by fin_cases a <;> decide) (fun a => by fin_cases a <;> decide) _
theorem aAt_eq (c : Dev nD) : aAt m c = m ((c : Thread nD τ).loc main_arg1) :=
  Memref.read_access_unit_zero (Elt F) main_arg1 (funext fun a => by fin_cases a <;> decide) (fun a => by fin_cases a <;> decide) _
theorem bAt_eq (c : Dev nD) : bAt m c = m ((c : Thread nD τ).loc main_arg2) :=
  Memref.read_access_unit_zero (Elt F) main_arg2 (funext fun a => by fin_cases a <;> decide) (fun a => by fin_cases a <;> decide) _
theorem cAt_eq (c : Dev nD) : cAt m c = m ((c : Thread nD τ).loc main_arg3) :=
  Memref.read_access_unit_zero (Elt F) main_arg3 (funext fun a => by fin_cases a <;> decide) (fun a => by fin_cases a <;> decide) _

/-- The run, by the program's own names: the arguments unchanged, the result on every device, the counters zero. -/
theorem run_result : θ_run defs (onTc (τ := τ) (main (F := F))) ⟨m, fun _ => 0, ρ⟩ (fun r =>
    (∀ c : Dev nD, r.2.mem ((c : Thread nD τ).loc main_v1) = outAt m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3))
    ∧ r.2.sem = fun _ => 0) :=
  (θ_run defs _ _).mono (fun r h => ⟨fun c => ⟨(h.1 c 4).trans (final_out m ρ c),
    (h.1 c 0).trans (final_arg m ρ c 0 (by decide)), (h.1 c 1).trans (final_arg m ρ c 1 (by decide)),
    (h.1 c 2).trans (final_arg m ρ c 2 (by decide)), (h.1 c 3).trans (final_arg m ρ c 3 (by decide))⟩, h.2⟩) (run_main m ρ)

end Cert.KernelIdealRun

end
-- ==== Proof.Value.Recurrence.lean ====
/-
A linear recurrence `h ↦ h * a + u t` begun at a given value: run in two stretches, run from inputs that agree, and, over
real numbers, run from `s` as the run from zero plus `a ^ n` times `s`. The last is what lets a receiving device add the
state that came in after its own scan is over.
-/
module

public import Idealize.ShloMosaic.Lib.ValueIdx
public import Idealize.ShloMosaic.PureOps.Ideal.Laws

@[expose] public section

noncomputable section

namespace Cert.Scan

open Idealize.ShloMosaic

/-- The value after `n` steps from `s`. -/
def run {R : Type} [Add R] [Mul R] (s a : R) (u : ℕ → R) : ℕ → R
  | 0 => s
  | t + 1 => run s a u t * a + u t

variable {R : Type} [Add R] [Mul R]

/-- `m + n` steps are `m` steps, then `n` steps from where they end. -/
theorem run_add (s a : R) (u : ℕ → R) (m : ℕ) : ∀ n : ℕ, run s a u (m + n) = run (run s a u m) a (fun t => u (m + t)) n
  | 0 => rfl
  | n + 1 => by
    show run s a u (m + n) * a + u (m + n) = run (run s a u m) a (fun t => u (m + t)) n * a + u (m + n)
    rw [run_add s a u m n]

/-- The first `n` steps read only the first `n` inputs. -/
theorem run_congr (s a : R) (u v : ℕ → R) : ∀ n : ℕ, (∀ t < n, u t = v t) → run s a u n = run s a v n
  | 0, _ => rfl
  | n + 1, h => by
    show run s a u n * a + u n = run s a v n * a + v n
    rw [run_congr s a u v n fun t ht => h t (by omega), h n (by omega)]

/-- Over the reals the start enters `n` steps on as `a ^ n` times itself. -/
theorem run_start (s a : ℝ) (u : ℕ → ℝ) : ∀ n : ℕ, run s a u n = run 0 a u n + a ^ n * s
  | 0 => by show s = 0 + a ^ 0 * s; simp
  | n + 1 => by
    show run s a u n * a + u n = (run 0 a u n * a + u n) + a ^ (n + 1) * s
    rw [run_start s a u n]; ring

/-- Over extended reals that are real the recurrence is that of the reals. -/
theorem run_coe (s a : ℝ) (u : ℕ → ℝ) : ∀ n : ℕ, run (s : EReal) (a : EReal) (fun t => (u t : EReal)) n = ((run s a u n : ℝ) : EReal)
  | 0 => rfl
  | n + 1 => by
    show run (s : EReal) (a : EReal) (fun t => (u t : EReal)) n * (a : EReal) + (u n : EReal) = _
    rw [run_coe s a u n, ← EReal.coe_mul, ← EReal.coe_add]
    rfl

/-- An extended real that is a real number. -/
def Finite (x : EReal) : Prop := ∃ r : ℝ, x = (r : EReal)

theorem Finite.coe (r : ℝ) : Finite (r : EReal) := ⟨r, rfl⟩

theorem Finite.mul {x y : EReal} : Finite x → Finite y → Finite (x * y)
  | ⟨r, hr⟩, ⟨q, hq⟩ => ⟨r * q, by rw [hr, hq, EReal.coe_mul]⟩

theorem Finite.exp {x : EReal} : Finite x → Finite (Ideal.exp x)
  | ⟨r, hr⟩ => ⟨Real.exp r, by rw [hr]; rfl⟩

/-- A recurrence of real numbers stays real. -/
theorem Finite.run {s a : EReal} {u : ℕ → EReal} (hs : Finite s) (ha : Finite a) (hu : ∀ t, Finite (u t)) (n : ℕ) :
    Finite (Scan.run s a u n) := by
  obtain ⟨s', rfl⟩ := hs
  obtain ⟨a', rfl⟩ := ha
  choose u' hu' using hu
  obtain rfl : u = fun t => (u' t : EReal) := funext hu'
  exact ⟨_, run_coe s' a' u' n⟩

/-- What an extended real that is below infinity in absolute value is. -/
theorem finite_of_abs_lt {x : EReal} (h : max x (-x) < ⊤) : Finite x := by
  have h1 : x ≠ ⊤ := fun e => by subst e; simp at h
  have h2 : x ≠ ⊥ := fun e => by subst e; simp at h
  exact ⟨x.toReal, (EReal.coe_toReal h1 h2).symm⟩

/-- THE CORRECTION, one term: the recurrence from zero times `c`, plus `exp (A * n)` times the start times `c`, is the
    recurrence from that start times `c`, where everything is real. -/
theorem correct_term {s A c : EReal} {u : ℕ → EReal} (hs : Finite s) (hA : Finite A) (hc : Finite c) (hu : ∀ t, Finite (u t)) (n : ℕ) :
    run 0 (Ideal.exp A) u n * c + Ideal.exp (A * ((n : ℝ) : EReal)) * s * c = run s (Ideal.exp A) u n * c := by
  obtain ⟨s', rfl⟩ := hs
  obtain ⟨A', rfl⟩ := hA
  obtain ⟨c', rfl⟩ := hc
  choose u' hu' using hu
  obtain rfl : u = fun t => (u' t : EReal) := funext hu'
  rw [← EReal.coe_mul, Ideal.exp_coe, Ideal.exp_coe, run_coe s', show (0 : EReal) = ((0 : ℝ) : EReal) from rfl, run_coe 0,
    ← EReal.coe_mul, ← EReal.coe_mul, ← EReal.coe_mul, ← EReal.coe_mul, ← EReal.coe_add, run_start s']
  congr 1
  rw [show Real.exp (A' * (n : ℝ)) = Real.exp A' ^ n by rw [mul_comm, Real.exp_nat_mul]]
  ring

end Cert.Scan

end
-- ==== Proof.Value.KernelRows.lean ====
/-
The kernel's payloads at an index, over the extended reals: one trip's state, the decay, the inputs, the output rows and
the correction, each as the formula of its operands' elements.
-/
module

public import proofs.«01_k».proof.Proof.KernelIdeal.Closed
public import proofs.«01_k».proof.Proof.Value.Recurrence
public import Idealize.ShloMosaic.Lib.ValueLayout
public import Idealize.ShloMosaic.Lib.ValueIdxCoords
public import Idealize.ShloMosaic.Lib.IdealHost

@[expose] public section

noncomputable section

namespace Cert.KernelIdealRun

open Cert.KernelIdeal Cert.KernelIdeal.Gen Cert.Scan
open Idealize.ShloMosaic Idealize.ShloMosaic.ValueIdx
open Idealize.ShloMosaic.VecWindow (window put)

/-- The decay of state `n` of channel `d` is the exponential of `A` there. -/
theorem decay_apply (A : FVec Ideal S512x16 .f32) (n : Fin 16) (d : Fin 512) :
    k0_pay14 (F := Ideal) A (ix2 n d) = Ideal.exp (A (ix2 d n)) := by
  unfold k0_pay14
  dsimp only
  rw [transpose_ix2_apply, shapeCast_self]
  rfl

/-- The state before the first chunk is zero. -/
theorem zero_apply (y : S8x16x512.Idx) : (k0_pay15 : FVec Ideal S8x16x512 .f32) y = 0 := by
  show Ideal.ofBits .f32 0x00000000#32 = 0
  simp

/-- The inputs of a chunk: `x` times `B`. -/
theorem input_apply (x : FVec Ideal S8x64x512 .f32) (B : FVec Ideal S8x64x16 .f32) (b : Fin 8) (j : Fin 64) (n : Fin 16) (d : Fin 512) :
    k0_pay16 (F := Ideal) x B (ix4 b j n d) = x (ix3 b j d) * B (ix3 b j n) := by
  unfold k0_pay16
  rw [shapeCast_self, shapeCast_self, shapeCast_self, mulf_apply]
  congr 1
  · rw [broadcastTo_apply _ _ (ix4 b j n d) (ix4 b j (0 : Fin 1) d) (fun a => by
        match a with
        | ⟨0, _⟩ => rfl
        | ⟨1, _⟩ => rfl
        | ⟨2, _⟩ => rfl
        | ⟨3, _⟩ => rfl)]
    refine shapeCast_apply _ _ _ _ ?_
    rw [Shape.rowMajor_val_three, Shape.rowMajor_val_four]
    show (b.val * 64 + j.val) * 512 + d.val = ((b.val * 64 + j.val) * 1 + 0) * 512 + d.val
    omega
  · rw [broadcastTo_apply _ _ (ix4 b j n d) (ix4 b j n (0 : Fin 1)) (fun a => by
        match a with
        | ⟨0, _⟩ => rfl
        | ⟨1, _⟩ => rfl
        | ⟨2, _⟩ => rfl
        | ⟨3, _⟩ => rfl)]
    refine shapeCast_apply _ _ _ _ ?_
    rw [Shape.rowMajor_val_three, Shape.rowMajor_val_four]
    show (b.val * 64 + j.val) * 16 + n.val = ((b.val * 64 + j.val) * 16 + n.val) * 1 + 0
    omega

/-- One trip's state: the state before times the decay, plus the row's input. -/
theorem next_apply (dA : FVec Ideal S16x512 .f32) (h : FVec Ideal S8x16x512 .f32) (u : FVec Ideal S8x1x16x512 .f32)
    (b : Fin 8) (n : Fin 16) (d : Fin 512) :
    k0_pay17 (F := Ideal) dA h u (ix3 b n d) = h (ix3 b n d) * dA (ix2 n d) + u (ix4 b (0 : Fin 1) n d) := by
  unfold k0_pay17
  rw [addf_apply, mulf_apply]
  congr 1
  · congr 1
    rw [broadcastTo_apply _ _ (ix3 b n d) (ix3 (0 : Fin 1) n d) (fun a => by
        match a with
        | ⟨0, _⟩ => rfl
        | ⟨1, _⟩ => rfl
        | ⟨2, _⟩ => rfl), shapeCast_ab_1ab_apply]
  · refine shapeCast_apply _ _ _ _ ?_
    rw [Shape.rowMajor_val_three, Shape.rowMajor_val_four]
    show ((b.val * 1 + 0) * 16 + n.val) * 512 + d.val = (b.val * 16 + n.val) * 512 + d.val
    omega

/-- What a trip writes back is its state. -/
theorem kept_apply (dA : FVec Ideal S16x512 .f32) (h : FVec Ideal S8x16x512 .f32) (u : FVec Ideal S8x1x16x512 .f32)
    (b : Fin 8) (n : Fin 16) (d : Fin 512) :
    k0_pay18 (F := Ideal) dA h u (ix4 b (0 : Fin 1) n d) = k0_pay17 dA h u (ix3 b n d) := by
  unfold k0_pay18
  refine shapeCast_apply _ _ _ _ ?_
  rw [Shape.rowMajor_val_three, Shape.rowMajor_val_four]
  show (b.val * 16 + n.val) * 512 + d.val = ((b.val * 1 + 0) * 16 + n.val) * 512 + d.val
  omega

/-- An output row: the sum over the states of the state times `C`. -/
theorem output_apply (C : FVec Ideal S8x64x16 .f32) (H : FVec Ideal S8x64x16x512 .f32) (b : Fin 8) (j : Fin 64) (d : Fin 512) :
    k0_pay19 (F := Ideal) C H (ix3 b j d) = ∑ n : Fin 16, H (ix4 b j n d) * C (ix3 b j n) := by
  unfold k0_pay19
  dsimp only
  refine (Ideal.multiReduction_add_single _ _ _ _ _ _).trans (Finset.sum_congr rfl fun (n : Fin 16) _ => ?_)
  rw [show reduces_S8x64x16x512_S8x64x512.lift (ix3 b j d) n = ix4 b j n d from funext fun a => by
        match a with
        | ⟨0, _⟩ => rfl
        | ⟨1, _⟩ => rfl
        | ⟨2, _⟩ => rfl
        | ⟨3, _⟩ => rfl, mulf_apply, shapeCast_self]
  congr 1
  rw [broadcastTo_apply _ _ (ix4 b j n d) (ix4 b j n (0 : Fin 1)) (fun a => by
        match a with
        | ⟨0, _⟩ => rfl
        | ⟨1, _⟩ => rfl
        | ⟨2, _⟩ => rfl
        | ⟨3, _⟩ => rfl)]
  refine shapeCast_apply _ _ _ _ ?_
  rw [Shape.rowMajor_val_three, Shape.rowMajor_val_four]
  show (b.val * 64 + j.val) * 16 + n.val = ((b.val * 64 + j.val) * 16 + n.val) * 1 + 0
  omega

/-- The factor of a corrected row: the exponential of `A` times the number of rows so far. -/
theorem factor_apply (A : FVec Ideal S512x16 .f32) (j : Fin 64) (n : Fin 16) (d : Fin 512) :
    k0_pay4 (F := Ideal) A (ix3 j n d) = Ideal.exp (A (ix2 d n) * (((j.val + 1 : ℕ) : ℝ) : EReal)) := by
  unfold k0_pay4
  dsimp only
  show Ideal.exp (_ * _) = _
  congr 2
  · rw [broadcastTo_apply _ _ (ix3 j n d) (ix3 (0 : Fin 1) n d) (fun a => by
        match a with
        | ⟨0, _⟩ => rfl
        | ⟨1, _⟩ => rfl
        | ⟨2, _⟩ => rfl), shapeCast_ab_1ab_apply, transpose_ix2_apply, shapeCast_self]
  · rw [sitofp_apply]
    show (((IntOp.addi (iota .tc S64x16x512 32 [0] iota_S64x16x512_d0_w32 (ix3 j n d)) 1#32 : BitVec 32).toInt : ℝ) : EReal) = _
    rw [iota_single_apply]
    have : (IntOp.addi (BitVec.ofNat 32 ((ix3 j n d : S64x16x512.Idx) 0).val) 1#32).toInt = ((j.val + 1 : ℕ) : ℤ) := by
      show (IntOp.addi (BitVec.ofNat 32 j.val) 1#32).toInt = ((j.val + 1 : ℕ) : ℤ)
      revert j; decide
    rw [this, Int.cast_natCast]

/-- A corrected row: what it held plus the sum over the states of the factor times the state that came in times `C`. -/
theorem correction_apply (A : FVec Ideal S512x16 .f32) (C : FVec Ideal S1x64x16 .f32) (H : FVec Ideal S1x16x512 .f32)
    (O : FVec Ideal S1x64x512 .f32) (j : Fin 64) (d : Fin 512) :
    k0_pay5 (F := Ideal) A C H O (ix3 (0 : Fin 1) j d)
      = O (ix3 (0 : Fin 1) j d) + ∑ n : Fin 16, Ideal.exp (A (ix2 d n) * (((j.val + 1 : ℕ) : ℝ) : EReal))
          * H (ix3 (0 : Fin 1) n d) * C (ix3 (0 : Fin 1) j n) := by
  unfold k0_pay5
  dsimp only
  rw [shapeCast_ab_1ab_apply, addf_apply, shapeCast_1ab_ab_apply]
  congr 1
  refine (Ideal.multiReduction_add_single _ _ _ _ _ _).trans (Finset.sum_congr rfl fun (n : Fin 16) _ => ?_)
  rw [show reduces_S64x16x512_S64x512.lift (ix2 j d) n = ix3 j n d from funext fun a => by
        match a with
        | ⟨0, _⟩ => rfl
        | ⟨1, _⟩ => rfl
        | ⟨2, _⟩ => rfl, mulf_apply, mulf_apply, factor_apply]
  congr 1
  · congr 1
    rw [broadcastTo_apply _ _ (ix3 j n d) (ix3 (0 : Fin 1) n d) (fun a => by
        match a with
        | ⟨0, _⟩ => rfl
        | ⟨1, _⟩ => rfl
        | ⟨2, _⟩ => rfl), shapeCast_ab_1ab_apply, shapeCast_1ab_ab_apply]
  · rw [broadcastTo_apply _ _ (ix3 j n d) (ix3 j n (0 : Fin 1)) (fun a => by
        match a with
        | ⟨0, _⟩ => rfl
        | ⟨1, _⟩ => rfl
        | ⟨2, _⟩ => rfl)]
    rw [show (ix3 j n (0 : Fin 1) : S64x16x1.Idx) = ix3 j n (0 : Fin 1) from rfl]
    refine (shapeCast_apply _ _ _ (ix2 j n) ?_).trans (shapeCast_1ab_ab_apply _ _ _ _)
    rw [Shape.rowMajor_val_three, Shape.rowMajor_val_two]
    show j.val * 16 + n.val = (j.val * 16 + n.val) * 1 + 0
    omega

end Cert.KernelIdealRun

end
-- ==== Proof.Value.KernelValue.lean ====
/-
What the kernel computes, over the extended reals, at an index: the state before a chunk and at a row of it is the
recurrence run over the device's own rows, the plain output sums it times `C`, and the correction adds the decayed state
that came in.
-/
module

public import proofs.«01_k».proof.Proof.Value.KernelRows

@[expose] public section

noncomputable section

namespace Cert.Scan

open Idealize.ShloMosaic Idealize.ShloMosaic.ValueIdx

/-- Row `t` of `T` rows, taken modulo `T`. -/
abbrev rowOf (T : ℕ) [NeZero T] (t : ℕ) : Fin T := Fin.ofNat T t

/-- The input of the recurrence of batch entry `b`, state `n`, channel `d` at row `t`: `x` times `B`. -/
def input {T : ℕ} [NeZero T] (X : FVec Ideal ⟨3, ![8, T, 512]⟩ .f32) (B : FVec Ideal ⟨3, ![8, T, 16]⟩ .f32) (b : Fin 8) (n : Fin 16)
    (d : Fin 512) (t : ℕ) : EReal :=
  X (ix3 b (rowOf T t) d) * B (ix3 b (rowOf T t) n)

/-- The decay of that recurrence. -/
def decay (A : FVec Ideal ⟨2, ![512, 16]⟩ .f32) (n : Fin 16) (d : Fin 512) : EReal := Ideal.exp (A (ix2 d n))

end Cert.Scan

namespace Cert.KernelIdealRun

open Cert.KernelIdeal Cert.KernelIdeal.Gen Cert.Scan
open Idealize.ShloMosaic Idealize.ShloMosaic.ValueIdx
open Idealize.ShloMosaic.VecWindow (window put)

/-! ## One chunk -/

/-- A put of one row of the scratch array, read there. -/
theorem put_row_in {α : Type} (U : S8x64x16x512.Idx → α) (k : ℕ) (w : S8x1x16x512.Idx → α) (b : Fin 8) (j : Fin 64) (n : Fin 16)
    (d : Fin 512) (h : j.val = k) : put U ![0, k, 0, 0] ![8, 1, 16, 512] w (ix4 b j n d) = w (ix4 b (0 : Fin 1) n d) := by
  unfold put
  rw [dif_pos (fun a => by
    match a with
    | ⟨0, _⟩ => exact ⟨Nat.zero_le _, by show b.val < 0 + 8; omega⟩
    | ⟨1, _⟩ => exact ⟨by show k ≤ j.val; omega, by show j.val < k + 1; omega⟩
    | ⟨2, _⟩ => exact ⟨Nat.zero_le _, by show n.val < 0 + 16; omega⟩
    | ⟨3, _⟩ => exact ⟨Nat.zero_le _, by show d.val < 0 + 512; omega⟩)]
  refine congrArg w (funext fun a => Fin.ext ?_)
  match a with
  | ⟨0, _⟩ => show b.val - 0 = b.val; omega
  | ⟨1, _⟩ => show j.val - k = 0; omega
  | ⟨2, _⟩ => show n.val - 0 = n.val; omega
  | ⟨3, _⟩ => show d.val - 0 = d.val; omega

/-- A put of one row of the scratch array, read at another. -/
theorem put_row_out {α : Type} (U : S8x64x16x512.Idx → α) (k : ℕ) (w : S8x1x16x512.Idx → α) (b : Fin 8) (j : Fin 64) (n : Fin 16)
    (d : Fin 512) (h : j.val ≠ k) : put U ![0, k, 0, 0] ![8, 1, 16, 512] w (ix4 b j n d) = U (ix4 b j n d) := by
  unfold put
  exact dif_neg fun hall => h (by
    have h1 : k ≤ j.val ∧ j.val < k + 1 := hall 1
    omega)

/-- After `k` trips the state is the recurrence `k` steps on, over the scratch rows as they were, and the scratch rows
    passed hold the states at them. -/
theorem trips_apply (dA : FVec Ideal S16x512 .f32) (s : FVec Ideal S8x16x512 .f32) (U : FVec Ideal S8x64x16x512 .f32)
    (u : Fin 8 → Fin 16 → Fin 512 → ℕ → EReal) (hu : ∀ b (j : Fin 64) n d, U (ix4 b j n d) = u b n d j.val) :
    ∀ k : ℕ, k ≤ 64 → ∀ b n d,
      (trips dA (s, U) k).1 (ix3 b n d) = run (s (ix3 b n d)) (dA (ix2 n d)) (u b n d) k
      ∧ ∀ j : Fin 64, (trips dA (s, U) k).2 (ix4 b j n d)
          = if j.val < k then run (s (ix3 b n d)) (dA (ix2 n d)) (u b n d) (j.val + 1) else u b n d j.val
  | 0, _, b, n, d => ⟨rfl, fun j => by rw [if_neg (Nat.not_lt_zero _)]; exact hu b j n d⟩
  | k + 1, hk, b, n, d => by
    obtain ⟨h1, h2⟩ := trips_apply dA s U u hu k (by omega) b n d
    have hrow : srow k (trips dA (s, U) k).2 (ix4 b (0 : Fin 1) n d) = u b n d k := by
      show (trips dA (s, U) k).2 (ix4 b ⟨(k + 0) % 64, _⟩ n d) = _
      rw [h2, if_neg (by show ¬ (k + 0) % 64 < k; omega)]
      show u b n d ((k + 0) % 64) = _
      rw [show (k + 0) % 64 = k by omega]
    have hnext : k0_pay17 dA (trips dA (s, U) k).1 (srow k (trips dA (s, U) k).2) (ix3 b n d)
        = run (s (ix3 b n d)) (dA (ix2 n d)) (u b n d) (k + 1) := by
      rw [next_apply, h1, hrow]; rfl
    refine ⟨hnext, fun j => ?_⟩
    show put (trips dA (s, U) k).2 ![0, k, 0, 0] ![8, 1, 16, 512] (k0_pay18 dA (trips dA (s, U) k).1 (srow k (trips dA (s, U) k).2)) (ix4 b j n d) = _
    by_cases hj : j.val = k
    · rw [put_row_in _ _ _ _ _ _ _ hj, kept_apply, hnext, if_pos (by omega), hj]
    · rw [put_row_out _ _ _ _ _ _ _ hj, h2]
      by_cases hlt : j.val < k
      · rw [if_pos hlt, if_pos (by omega)]
      · rw [if_neg hlt, if_neg (by omega)]

section Plain

variable (X : FVec Ideal S8x512x512 .f32) (A : FVec Ideal S512x16 .f32) (B C : FVec Ideal S8x512x16 .f32)

/-- The scratch rows of chunk `c` hold the inputs of its rows. -/
theorem inp_apply (c : ℕ) (hc : c < 8) (b : Fin 8) (j : Fin 64) (n : Fin 16) (d : Fin 512) :
    inp X B c (ix4 b j n d) = input X B b n d (64 * c + j.val) := by
  unfold inp
  rw [input_apply]
  rfl

/-- The state before chunk `c` is the recurrence from zero, `64 c` rows on. -/
theorem state_apply : ∀ c : ℕ, c ≤ 8 → ∀ b n d, state X A B c (ix3 b n d) = run 0 (decay A n d) (input X B b n d) (64 * c)
  | 0, _, b, n, d => zero_apply _
  | c + 1, hc, b, n, d => by
    show (trips (k0_pay14 A) (state X A B c, inp X B c) 64).1 (ix3 b n d) = _
    rw [(trips_apply (k0_pay14 A) (state X A B c) (inp X B c) (fun b n d t => input X B b n d (64 * c + t))
        (fun b j n d => inp_apply X B c (by omega) b j n d) 64 (le_refl _) b n d).1, decay_apply, state_apply c (by omega) b n d]
    exact (run_add _ _ _ (64 * c) 64).symm

/-- After chunk `c` the scratch rows hold the states at the chunk's rows. -/
theorem states_apply (c : ℕ) (hc : c < 8) (b : Fin 8) (j : Fin 64) (n : Fin 16) (d : Fin 512) :
    states X A B c (ix4 b j n d) = run 0 (decay A n d) (input X B b n d) (64 * c + j.val + 1) := by
  show (trips (k0_pay14 A) (state X A B c, inp X B c) 64).2 (ix4 b j n d) = _
  rw [(trips_apply (k0_pay14 A) (state X A B c) (inp X B c) (fun b n d t => input X B b n d (64 * c + t))
      (fun b j n d => inp_apply X B c hc b j n d) 64 (le_refl _) b n d).2 j, if_pos j.isLt, decay_apply, state_apply X A B c (by omega) b n d]
  exact (run_add _ _ _ (64 * c) (j.val + 1)).symm

/-- THE PLAIN OUTPUT: at row `r` the sum over the states of the recurrence `r + 1` rows on times `C`. -/
theorem outPlain_value (b : Fin 8) (r d : Fin 512) :
    outPlain X A B C (ix3 b r d) = ∑ n : Fin 16, run 0 (decay A n d) (input X B b n d) (r.val + 1) * C (ix3 b r n) := by
  show outRows X A B C (r.val / 64) (ix3 b ⟨r.val % 64, _⟩ d) = _
  unfold outRows
  rw [output_apply]
  refine Finset.sum_congr rfl fun n _ => ?_
  rw [states_apply X A B _ (by omega)]
  show run 0 (decay A n d) (input X B b n d) (64 * (r.val / 64) + r.val % 64 + 1) * C (ix3 b ⟨(64 * (r.val / 64) + r.val % 64) % 512, _⟩ n) = _
  have h : 64 * (r.val / 64) + r.val % 64 = r.val := by omega
  congr 2
  · rw [h]
  · funext a
    match a with
    | ⟨0, _⟩ => rfl
    | ⟨1, _⟩ => exact Fin.ext (by show (64 * (r.val / 64) + r.val % 64) % 512 = r.val; omega)
    | ⟨2, _⟩ => rfl

/-- The state handed on is the recurrence over all 512 rows. -/
theorem lastState_value (b : Fin 8) (n : Fin 16) (d : Fin 512) :
    lastState X A B (ix3 b n d) = run 0 (decay A n d) (input X B b n d) 512 := by
  show k0_pay2 (state X A B 8) (ix3 b n d) = _
  unfold k0_pay2
  rw [shapeCast_self, state_apply X A B 8 (le_refl _)]

end Plain

/-- THE CORRECTION at one of the first 64 rows: what the row held, plus the sum over the states of the state that came in,
    decayed to that row, times `C`. -/
theorem corrected_value (A : FVec Ideal S512x16 .f32) (C : FVec Ideal S8x512x16 .f32) (H : FVec Ideal S8x16x512 .f32)
    (O : FVec Ideal S8x512x512 .f32) (b : Fin 8) (r d : Fin 512) (hr : r.val < 64) :
    corrected A C H O 8 (ix3 b r d) = O (ix3 b r d)
      + ∑ n : Fin 16, Ideal.exp (A (ix2 d n) * (((r.val + 1 : ℕ) : ℝ) : EReal)) * H (ix3 b n d) * C (ix3 b r n) := by
  rw [corrected_apply A C H O (ix3 b r d) hr 8 b.isLt (le_refl _)]
  show k0_pay5 A (batch 64 b.val _ C) (batch 16 b.val _ H) (batch 64 b.val _ O) (ix3 (0 : Fin 1) ⟨r.val % 64, _⟩ d) = _
  rw [correction_apply]
  have hb : (⟨(b.val + 0) % 8, Nat.mod_lt _ (by decide)⟩ : Fin 8) = b := Fin.ext (by show (b.val + 0) % 8 = b.val; omega)
  have hr' : (⟨r.val % 64 % 512, Nat.mod_lt _ (by decide)⟩ : Fin 512) = r := Fin.ext (by show r.val % 64 % 512 = r.val; omega)
  congr 1
  · show O (ix3 ⟨(b.val + 0) % 8, _⟩ ⟨r.val % 64 % 512, _⟩ d) = _
    rw [hb, hr']
  · refine Finset.sum_congr rfl fun n _ => ?_
    have hn : (⟨n.val % 16, Nat.mod_lt _ (by decide)⟩ : Fin 16) = n := Fin.ext (by show n.val % 16 = n.val; omega)
    show Ideal.exp (A (ix2 d n) * (((r.val % 64 + 1 : ℕ) : ℝ) : EReal)) * H (ix3 ⟨(b.val + 0) % 8, _⟩ ⟨n.val % 16, _⟩ d)
      * C (ix3 ⟨(b.val + 0) % 8, _⟩ ⟨r.val % 64 % 512, _⟩ n) = _
    rw [hb, hr', hn, Nat.mod_eq_of_lt hr]

end Cert.KernelIdealRun

end
-- ==== Proof.Value.HostRows.lean ====
/-
What the references' loops do in one trip, at an index, each fact once for both: cutting a row out, spreading it over the
axes it lacks, the sum over the states, writing a row.
-/
module

public import proofs.«01_k».proof.Proof.Value.KernelValue
public import Idealize.ShloMosaic.Lib.StableHlo
public import Idealize.ShloMosaic.Lib.WordCmp

@[expose] public section

noncomputable section

namespace Cert.HostRows

open Cert.Scan
open Idealize.ShloMosaic Idealize.ShloMosaic.ValueIdx Idealize.ShloMosaic.StableHlo

/-! ## Words -/

/-- The word of a row's number, read signed, is that number. -/
theorem word_toInt (j : ℕ) (hj : j < 1024) : (BitVec.ofNat 32 j).toInt = (j : ℤ) := Idealize.ShloMosaic.WordCmp.toInt_ofNat_of_lt (by omega)

/-- Words of two rows' numbers are equal as the numbers are. -/
theorem word_eq (i k : ℕ) (hi : i < 1024) (hk : k < 1024) :
    IntOp.cmpi .eq (BitVec.ofNat 32 i) (BitVec.ofNat 32 k) = BitVec.ofBool (decide (i = k)) := by
  show BitVec.ofBool (BitVec.ofNat 32 i == BitVec.ofNat 32 k) = _
  congr 1
  rw [Bool.eq_iff_iff, beq_iff_eq, decide_eq_true_iff]
  refine ⟨fun h => ?_, fun h => h ▸ rfl⟩
  have := congrArg BitVec.toInt h
  rw [word_toInt i hi, word_toInt k hk] at this
  omega

/-- Words of two rows' numbers compare as the numbers do. -/
theorem word_slt (i k : ℕ) (hi : i < 1024) (hk : k < 1024) :
    IntOp.cmpi .slt (BitVec.ofNat 32 i) (BitVec.ofNat 32 k) = BitVec.ofBool (decide (i < k)) := by
  show BitVec.ofBool ((BitVec.ofNat 32 i).slt (BitVec.ofNat 32 k)) = _
  congr 1
  rw [Bool.eq_iff_iff, decide_eq_true_iff, BitVec.slt_iff_toInt_lt, word_toInt i hi, word_toInt k hk]
  omega

/-! ## A row cut out and spread -/

/-- A row of an array over the batch, the rows and `W` columns, cut out and its axis dropped. -/
theorem row_cut {W : ℕ} (j : ℕ) (X : FVec Ideal ⟨3, ![8, 1024, W]⟩ .f32) (st : Fin 3 → ℤ) (h0 : st 0 = 0) (h1 : st 1 = (j : ℤ)) (h2 : st 2 = 0)
    (hf : (⟨3, ![8, 1024, W]⟩ : Shape).Slices (fun _ => 0) ⟨3, ![8, 1, W]⟩) (hc : (⟨3, ![8, 1, W]⟩ : Shape).ShapeCasts ⟨2, ![8, W]⟩)
    (hj : j < 1024) (b : Fin 8) (w : Fin W) :
    shapeCast ⟨2, ![8, W]⟩ (Host.dynamicSlice ⟨3, ![8, 1, W]⟩ X st hf) hc (ix2 b w) = X (ix3 b (rowOf 1024 j) w) := by
  refine (shapeCast_apply _ _ _ (ix3 b (0 : Fin 1) w) ?_).trans ?_
  · rw [Shape.rowMajor_val_three, Shape.rowMajor_val_two]
    show (b.val * 1 + 0) * W + w.val = b.val * W + w.val
    rw [Nat.mul_one, Nat.add_zero]
  · unfold Host.dynamicSlice extractStridedSlice
    refine congrArg X (funext fun a => Fin.ext ?_)
    match a with
    | ⟨0, _⟩ => show (min (max (st 0) 0) ((8 - 8 : ℕ) : ℤ)).toNat + b.val = b.val; rw [h0]; simp
    | ⟨1, _⟩ => show (min (max (st 1) 0) ((1024 - 1 : ℕ) : ℤ)).toNat + 0 = j % 1024; rw [h1]; omega
    | ⟨2, _⟩ => show (min (max (st 2) 0) ((W - W : ℕ) : ℤ)).toNat + w.val = w.val; rw [h2]; simp

/-- A row over the batch and the states, spread over the channels. -/
theorem spread_states (v : FVec Ideal ⟨2, ![8, 16]⟩ .f32)
    (h1 : (⟨2, ![8, 16]⟩ : Shape).BroadcastsInDim ⟨3, ![8, 1, 16]⟩ ![0, 2])
    (h2 : (⟨3, ![8, 1, 16]⟩ : Shape).BroadcastsInDim ⟨3, ![8, 512, 16]⟩ ![0, 1, 2]) (b : Fin 8) (d : Fin 512) (n : Fin 16) :
    broadcastInDim ⟨3, ![8, 512, 16]⟩ ![0, 1, 2] h2 (broadcastInDim ⟨3, ![8, 1, 16]⟩ ![0, 2] h1 v) (ix3 b d n) = v (ix2 b n) := by
  rw [broadcastInDim_apply _ _ _ (ix3 b d n) (ix3 b (0 : Fin 1) n) (fun a => by
        match a with
        | ⟨0, _⟩ => rfl
        | ⟨1, _⟩ => rfl
        | ⟨2, _⟩ => rfl),
    broadcastInDim_apply _ _ _ (ix3 b (0 : Fin 1) n) (ix2 b n) (fun a => by
        match a with
        | ⟨0, _⟩ => rfl
        | ⟨1, _⟩ => rfl)]

/-- A row over the batch and the channels, spread over the states. -/
theorem spread_channels (v : FVec Ideal ⟨2, ![8, 512]⟩ .f32)
    (h1 : (⟨2, ![8, 512]⟩ : Shape).BroadcastsInDim ⟨3, ![8, 512, 1]⟩ ![0, 1])
    (h2 : (⟨3, ![8, 512, 1]⟩ : Shape).BroadcastsInDim ⟨3, ![8, 512, 16]⟩ ![0, 1, 2]) (b : Fin 8) (d : Fin 512) (n : Fin 16) :
    broadcastInDim ⟨3, ![8, 512, 16]⟩ ![0, 1, 2] h2 (broadcastInDim ⟨3, ![8, 512, 1]⟩ ![0, 1] h1 v) (ix3 b d n) = v (ix2 b d) := by
  rw [broadcastInDim_apply _ _ _ (ix3 b d n) (ix3 b d (0 : Fin 1)) (fun a => by
        match a with
        | ⟨0, _⟩ => rfl
        | ⟨1, _⟩ => rfl
        | ⟨2, _⟩ => rfl),
    broadcastInDim_apply _ _ _ (ix3 b d (0 : Fin 1)) (ix2 b d) (fun a => by
        match a with
        | ⟨0, _⟩ => rfl
        | ⟨1, _⟩ => rfl)]

/-- The decay, with an axis for the batch and spread over it. -/
theorem spread_decay (A : FVec Ideal ⟨2, ![512, 16]⟩ .f32)
    (h1 : (⟨2, ![512, 16]⟩ : Shape).BroadcastsInDim ⟨3, ![1, 512, 16]⟩ ![1, 2])
    (h2 : (⟨3, ![1, 512, 16]⟩ : Shape).BroadcastsInDim ⟨3, ![8, 512, 16]⟩ ![0, 1, 2]) (b : Fin 8) (d : Fin 512) (n : Fin 16) :
    broadcastInDim ⟨3, ![8, 512, 16]⟩ ![0, 1, 2] h2 (broadcastInDim ⟨3, ![1, 512, 16]⟩ ![1, 2] h1 (Host.exp A)) (ix3 b d n) = decay A n d := by
  rw [broadcastInDim_apply _ _ _ (ix3 b d n) (ix3 (0 : Fin 1) d n) (fun a => by
        match a with
        | ⟨0, _⟩ => rfl
        | ⟨1, _⟩ => rfl
        | ⟨2, _⟩ => rfl),
    broadcastInDim_apply _ _ _ (ix3 (0 : Fin 1) d n) (ix2 d n) (fun a => by
        match a with
        | ⟨0, _⟩ => rfl
        | ⟨1, _⟩ => rfl)]
  rfl

/-- The zero that a loop starts from or a sum starts at, spread over an array. -/
theorem zeros_at {s : Shape} (h : (⟨0, ![]⟩ : Shape).BroadcastsInDim s ![]) (i : s.Idx) :
    broadcastInDim s ![] h (constant (F := Ideal) ⟨0, ![]⟩ .f32 0x00000000#32) i = (0 : EReal) := by
  rw [broadcastInDim_scalar_apply]
  show Ideal.ofBits .f32 0x00000000#32 = 0
  simp

/-! ## The sum over the states, and the row it is written to -/

/-- The sum over the states. -/
theorem sum_states (v : FVec Ideal ⟨3, ![8, 512, 16]⟩ .f32) (h : (⟨3, ![8, 512, 16]⟩ : Shape).ReducesTo [2] ⟨2, ![8, 512]⟩)
    (h0 : 0 < (⟨0, ![]⟩ : Shape).numel) (b : Fin 8) (d : Fin 512) :
    Host.reduceAdd v (constant (F := Ideal) ⟨0, ![]⟩ .f32 0x00000000#32) h h0 (ix2 b d) = ∑ n : Fin 16, v (ix3 b d n) := by
  have hr : (⟨3, ![8, 512, 16]⟩ : Shape).Reduces [2] ⟨2, ![8, 512]⟩ := by decide
  rw [hostReduceAdd_apply, Ideal.hostReduceAdd_single h hr]
  rw [show constant (F := Ideal) ⟨0, ![]⟩ .f32 0x00000000#32 (Shape.Idx.first h0) = (0 : EReal) by
    show Ideal.ofBits .f32 0x00000000#32 = 0
    simp, zero_add]
  refine Finset.sum_congr rfl fun (n : Fin 16) _ => ?_
  rw [show hr.lift (ix2 b d) n = ix3 b d n from funext fun a => by
    match a with
    | ⟨0, _⟩ => rfl
    | ⟨1, _⟩ => rfl
    | ⟨2, _⟩ => rfl]

/-- Writing row `j`: there the new row, elsewhere what was there. -/
theorem row_written (j : ℕ) (hj : j < 1024) (v : FVec Ideal ⟨2, ![8, 512]⟩ .f32) (y : FVec Ideal ⟨3, ![8, 1024, 512]⟩ .f32)
    (h1 : (⟨1, ![1024]⟩ : Shape).BroadcastsInDim ⟨2, ![1024, 1]⟩ ![0]) (h2 : (⟨0, ![]⟩ : Shape).BroadcastsInDim ⟨2, ![1024, 1]⟩ ![])
    (h3 : (⟨2, ![1024, 1]⟩ : Shape).BroadcastsInDim ⟨3, ![8, 1024, 512]⟩ ![1, 2])
    (h4 : (⟨2, ![8, 512]⟩ : Shape).BroadcastsInDim ⟨3, ![8, 1, 512]⟩ ![0, 2])
    (h5 : (⟨3, ![8, 1, 512]⟩ : Shape).BroadcastsInDim ⟨3, ![8, 1024, 512]⟩ ![0, 1, 2]) (b : Fin 8) (t : Fin 1024) (d : Fin 512) :
    select (broadcastInDim ⟨3, ![8, 1024, 512]⟩ ![1, 2] h3
          (cmpi .eq (broadcastInDim ⟨2, ![1024, 1]⟩ ![0] h1 (iotaInDim ⟨1, ![1024]⟩ 32 0))
            (broadcastInDim ⟨2, ![1024, 1]⟩ ![] h2 (constantI ⟨0, ![]⟩ 32 (BitVec.ofNat 32 j)))))
        (broadcastInDim ⟨3, ![8, 1024, 512]⟩ ![0, 1, 2] h5 (broadcastInDim ⟨3, ![8, 1, 512]⟩ ![0, 2] h4 v)) y (ix3 b t d)
      = if t.val = j then v (ix2 b d) else y (ix3 b t d) := by
  rw [select_apply,
    broadcastInDim_apply _ h3 _ (ix3 b t d) (ix2 t (0 : Fin 1)) (fun a => by
        match a with
        | ⟨0, _⟩ => rfl
        | ⟨1, _⟩ => rfl),
    broadcastInDim_apply _ h5 _ (ix3 b t d) (ix3 b (0 : Fin 1) d) (fun a => by
        match a with
        | ⟨0, _⟩ => rfl
        | ⟨1, _⟩ => rfl
        | ⟨2, _⟩ => rfl),
    broadcastInDim_apply _ h4 _ (ix3 b (0 : Fin 1) d) (ix2 b d) (fun a => by
        match a with
        | ⟨0, _⟩ => rfl
        | ⟨1, _⟩ => rfl)]
  show (if IntOp.cmpi .eq (BitVec.ofNat 32 t.val) (BitVec.ofNat 32 j) = 1#1 then _ else _) = _
  rw [word_eq t.val j t.isLt hj]
  by_cases h : t.val = j
  · rw [if_pos h, decide_eq_true h]; rfl
  · rw [if_neg h, decide_eq_false h]; rfl

/-! ## The recurrence over the whole arrays -/

variable (X : FVec Ideal ⟨3, ![8, 1024, 512]⟩ .f32) (A : FVec Ideal ⟨2, ![512, 16]⟩ .f32) (B : FVec Ideal ⟨3, ![8, 1024, 16]⟩ .f32)

/-- The recurrence's state after the rows below `t`. -/
def full (b : Fin 8) (n : Fin 16) (d : Fin 512) (t : ℕ) : EReal := run 0 (decay A n d) (input X B b n d) t

/-- The state after `k` rows of the recurrence that begins at row 512. -/
def anew (b : Fin 8) (n : Fin 16) (d : Fin 512) (k : ℕ) : EReal := run 0 (decay A n d) (fun i => input X B b n d (512 + i)) k

end Cert.HostRows

end
-- ==== Proof.Value.ReferenceValue.lean ====
/-
What the reference computes, over the extended reals. After `t` trips its first state is the recurrence from zero over the
first `t` rows, its second the recurrence begun anew at row 512, and the rows of `y` below `t` are written: each the sum
over the states of the first (rows below 576) or the second (the others) times `C`.
-/
module

public import proofs.«01_k».proof.Proof.Gen.ReferenceIdeal.StepRun
public import proofs.«01_k».proof.Proof.Value.HostRows

@[expose] public section

noncomputable section

namespace Cert.ReferenceIdealRun

open Cert.ReferenceIdeal Cert.ReferenceIdeal.Gen Cert.ReferenceIdeal.Step Cert.Scan Cert.HostRows
open Idealize.ShloMosaic Idealize.ShloMosaic.ValueIdx

/-! ## One trip's values at an index -/

section Trip

variable (j : ℕ) (s : State Ideal)

/-- Row `j`'s input of the recurrence. -/
theorem input_row (hj : j < 1024) (b : Fin 8) (d : Fin 512) (n : Fin 16) :
    b14 j s (ix3 b d n) = input s.main_v6_0 s.main_v6_1 b n d j := by
  unfold b14
  rw [mulf_apply]
  exact congrArg₂ (· * ·) ((spread_channels _ _ _ b d n).trans (row_cut j s.main_v6_0 _ rfl (word_toInt j hj) rfl _ _ hj b d))
    ((spread_states _ _ _ b d n).trans (row_cut j s.main_v6_1 _ rfl (word_toInt j hj) rfl _ _ hj b n))

/-- The row of `C` that a trip multiplies by. -/
theorem C_row (hj : j < 1024) (b : Fin 8) (d : Fin 512) (n : Fin 16) :
    b35 j s (ix3 b d n) = s.main_v6_3 (ix3 b (rowOf 1024 j) n) :=
  (spread_states _ _ _ b d n).trans (row_cut j s.main_v6_3 _ rfl (word_toInt j hj) rfl _ _ hj b n)

/-- The first state after a trip. -/
theorem first_next (hj : j < 1024) (b : Fin 8) (d : Fin 512) (n : Fin 16) :
    b17 j s (ix3 b d n) = s.main_v6_7 (ix3 b d n) * b15 j s (ix3 b d n) + input s.main_v6_0 s.main_v6_1 b n d j := by
  unfold b17 b16
  rw [addf_apply, mulf_apply, input_row j s hj]

/-- The second state after a trip: at row 512 it begins anew. -/
theorem second_next (hj : j < 1024) (b : Fin 8) (d : Fin 512) (n : Fin 16) :
    b26 j s (ix3 b d n) = (if j = 512 then 0 else s.main_v6_8 (ix3 b d n)) * b24 j s (ix3 b d n)
      + input s.main_v6_0 s.main_v6_1 b n d j := by
  unfold b26 b25
  rw [addf_apply, mulf_apply, input_row j s hj]
  congr 2
  unfold b23
  rw [select_apply, broadcastInDim_scalar_apply]
  have hz : b22 j s (ix3 b d n) = 0 := by
    unfold b22 b21 b20
    rw [broadcastInDim_scalar_apply]
    show (((0#32 : BitVec 32).toInt : ℝ) : EReal) = 0
    simp
  rw [show b19 j s ix0 = BitVec.ofBool (decide (j = 512)) from word_eq j 512 hj (by omega)]
  by_cases h : j = 512
  · rw [if_pos h, decide_eq_true h]
    exact hz
  · rw [if_neg h, decide_eq_false h]
    rfl

/-- The row of `y` that a trip writes. -/
theorem row_next (hj : j < 1024) (b : Fin 8) (d : Fin 512) :
    b38 j s (ix2 b d) = ∑ n : Fin 16, (if j < 576 then b17 j s (ix3 b d n) else b26 j s (ix3 b d n)) * s.main_v6_3 (ix3 b (rowOf 1024 j) n) := by
  refine (sum_states (b36 j s) _ _ b d).trans (Finset.sum_congr rfl fun (n : Fin 16) _ => ?_)
  unfold b36 b29
  rw [mulf_apply, C_row j s hj, select_apply, broadcastInDim_scalar_apply,
    show b28 j s ix0 = BitVec.ofBool (decide (j < 576)) from word_slt j 576 hj (by omega)]
  congr 1
  by_cases h : j < 576
  · rw [if_pos h, decide_eq_true h]; rfl
  · rw [if_neg h, decide_eq_false h]; rfl

/-- `y` after a trip: row `j` is the new one. -/
theorem y_next (hj : j < 1024) (b : Fin 8) (t : Fin 1024) (d : Fin 512) :
    b45 j s (ix3 b t d) = if t.val = j then b38 j s (ix2 b d) else s.main_v6_9 (ix3 b t d) :=
  row_written j hj (b38 j s) s.main_v6_9 _ _ _ _ _ b t d

end Trip

/-! ## The loop -/

variable (X : FVec Ideal S8x1024x512 .f32) (A : FVec Ideal S512x16 .f32) (B C : FVec Ideal S8x1024x16 .f32)

/-- The state before trip `t`. -/
def stateAt : ℕ → State Ideal
  | 0 => init X B C A
  | t + 1 => step t (stateAt t)

/-- No trip changes the loop's constants. -/
theorem constants (t : ℕ) : (stateAt X A B C t).main_v6_0 = X ∧ (stateAt X A B C t).main_v6_1 = B
    ∧ (stateAt X A B C t).main_v6_2 = A_main_v1 A ∧ (stateAt X A B C t).main_v6_3 = C := by
  induction t with
  | zero => exact ⟨rfl, rfl, rfl, rfl⟩
  | succ t ih => exact ih

/-- The decay that the first state is multiplied by. -/
theorem first_decay (t : ℕ) (b : Fin 8) (d : Fin 512) (n : Fin 16) : b15 t (stateAt X A B C t) (ix3 b d n) = decay A n d := by
  unfold b15
  rw [(constants X A B C t).2.2.1]
  exact spread_decay A _ _ b d n

/-- The decay that the second state is multiplied by. -/
theorem second_decay (t : ℕ) (b : Fin 8) (d : Fin 512) (n : Fin 16) : b24 t (stateAt X A B C t) (ix3 b d n) = decay A n d :=
  first_decay X A B C t b d n

/-- The first state before trip `t`. -/
theorem first_at (t : ℕ) (ht : t ≤ 1024) (b : Fin 8) (d : Fin 512) (n : Fin 16) :
    (stateAt X A B C t).main_v6_7 (ix3 b d n) = full X A B b n d t := by
  induction t with
  | zero => exact zeros_at (s := S8x512x16) (by decide) (ix3 b d n)
  | succ t ih =>
    show b17 t (stateAt X A B C t) (ix3 b d n) = _
    obtain ⟨hX, hB, -, -⟩ := constants X A B C t
    rw [first_next t _ (by omega), ih (by omega), hX, hB, first_decay]
    rfl

/-- The second state before trip `t`, from row 512 on. -/
theorem second_at (k : ℕ) (hk : 512 + (k + 1) ≤ 1024) (b : Fin 8) (d : Fin 512) (n : Fin 16) :
    (stateAt X A B C (512 + (k + 1))).main_v6_8 (ix3 b d n) = anew X A B b n d (k + 1) := by
  induction k with
  | zero =>
    show b26 512 (stateAt X A B C 512) (ix3 b d n) = _
    obtain ⟨hX, hB, -, -⟩ := constants X A B C 512
    rw [second_next 512 _ (by omega), if_pos rfl, hX, hB, second_decay]
    rfl
  | succ k ih =>
    show b26 (512 + (k + 1)) (stateAt X A B C (512 + (k + 1))) (ix3 b d n) = _
    obtain ⟨hX, hB, -, -⟩ := constants X A B C (512 + (k + 1))
    rw [second_next _ _ (by omega), if_neg (by omega), ih (by omega), hX, hB, second_decay]
    rfl

/-- Row `t` of the result: the recurrence below row 576, the one begun at row 512 from there on. -/
def rowState (b : Fin 8) (n : Fin 16) (d : Fin 512) (t : ℕ) : EReal :=
  if t < 576 then full X A B b n d (t + 1) else anew X A B b n d (t - 511)

/-- The row that trip `t` writes. -/
theorem row_at (t : ℕ) (ht : t < 1024) (b : Fin 8) (d : Fin 512) :
    b38 t (stateAt X A B C t) (ix2 b d) = ∑ n : Fin 16, rowState X A B b n d t * C (ix3 b (rowOf 1024 t) n) := by
  obtain ⟨-, -, -, hC⟩ := constants X A B C t
  rw [row_next t _ ht, hC]
  refine Finset.sum_congr rfl fun (n : Fin 16) _ => ?_
  congr 1
  unfold rowState
  by_cases h : t < 576
  · rw [if_pos h, if_pos h]
    exact first_at X A B C (t + 1) (by omega) b d n
  · rw [if_neg h, if_neg h]
    obtain ⟨k, rfl⟩ : ∃ k, t = 512 + k := ⟨t - 512, by omega⟩
    have := second_at X A B C k (by omega) b d n
    rw [show 512 + k - 511 = k + 1 by omega]
    exact this

/-- `y` before trip `t`: the rows below `t` are written. -/
theorem y_at (t : ℕ) (ht : t ≤ 1024) (b : Fin 8) (r : Fin 1024) (hr : r.val < t) (d : Fin 512) :
    (stateAt X A B C t).main_v6_9 (ix3 b r d) = ∑ n : Fin 16, rowState X A B b n d r.val * C (ix3 b r n) := by
  induction t with
  | zero => omega
  | succ t ih =>
    show b45 t (stateAt X A B C t) (ix3 b r d) = _
    rw [y_next t _ (by omega)]
    by_cases h : r.val = t
    · subst h
      rw [if_pos rfl, row_at X A B C _ r.isLt, show rowOf 1024 r.val = r from Fin.ext (Nat.mod_eq_of_lt r.isLt)]
    · rw [if_neg h]
      exact ih (by omega) (by omega)

/-- The reference's result. -/
theorem result_at (b : Fin 8) (r : Fin 1024) (d : Fin 512) :
    (stateAt X A B C 1024).main_v6_9 (ix3 b r d) = ∑ n : Fin 16, rowState X A B b n d r.val * C (ix3 b r n) :=
  y_at X A B C 1024 (by omega) b r r.isLt d

end Cert.ReferenceIdealRun

end
-- ==== Proof.Value.RecurrenceValue.lean ====
/-
What reference.py's own recurrence computes, over the extended reals: after `t` trips its state is the recurrence from zero
over the first `t` rows, and the rows of `y` below `t` are written, each the sum over the states of the state after that row times `C`.
-/
module

public import proofs.«01_k».proof.Proof.Gen.RecurrenceIdeal.StepRun
public import proofs.«01_k».proof.Proof.Value.HostRows

@[expose] public section

noncomputable section

namespace Cert.RecurrenceIdealRun

open Cert.RecurrenceIdeal Cert.RecurrenceIdeal.Gen Cert.RecurrenceIdeal.Step Cert.Scan Cert.HostRows
open Idealize.ShloMosaic Idealize.ShloMosaic.ValueIdx

/-! ## One trip's values at an index -/

section Trip

variable (j : ℕ) (s : State Ideal)

/-- Row `j`'s input of the recurrence. -/
theorem input_row (hj : j < 1024) (b : Fin 8) (d : Fin 512) (n : Fin 16) :
    b16 j s (ix3 b d n) = input s.main_v6_1 s.main_v6_2 b n d j := by
  unfold b16
  rw [mulf_apply]
  exact congrArg₂ (· * ·) ((spread_channels _ _ _ b d n).trans (row_cut j s.main_v6_1 _ rfl (word_toInt j hj) rfl _ _ hj b d))
    ((spread_states _ _ _ b d n).trans (row_cut j s.main_v6_2 _ rfl (word_toInt j hj) rfl _ _ hj b n))

/-- The row of `C` that a trip multiplies by. -/
theorem C_row (hj : j < 1024) (b : Fin 8) (d : Fin 512) (n : Fin 16) :
    b23 j s (ix3 b d n) = s.main_v6_3 (ix3 b (rowOf 1024 j) n) :=
  (spread_states _ _ _ b d n).trans (row_cut j s.main_v6_3 _ rfl (word_toInt j hj) rfl _ _ hj b n)

/-- The state after a trip. -/
theorem state_next (hj : j < 1024) (b : Fin 8) (d : Fin 512) (n : Fin 16) :
    b17 j s (ix3 b d n) = s.main_v6_7 (ix3 b d n) * b2 j s (ix3 b d n) + input s.main_v6_1 s.main_v6_2 b n d j := by
  unfold b17 b3
  rw [addf_apply, mulf_apply, input_row j s hj]

/-- The row of `y` that a trip writes. -/
theorem row_next (hj : j < 1024) (b : Fin 8) (d : Fin 512) :
    b26 j s (ix2 b d) = ∑ n : Fin 16, b17 j s (ix3 b d n) * s.main_v6_3 (ix3 b (rowOf 1024 j) n) := by
  refine (sum_states (b24 j s) _ _ b d).trans (Finset.sum_congr rfl fun (n : Fin 16) _ => ?_)
  unfold b24
  rw [mulf_apply, C_row j s hj]

/-- `y` after a trip: row `j` is the new one. -/
theorem y_next (hj : j < 1024) (b : Fin 8) (t : Fin 1024) (d : Fin 512) :
    b33 j s (ix3 b t d) = if t.val = j then b26 j s (ix2 b d) else s.main_v6_8 (ix3 b t d) :=
  row_written j hj (b26 j s) s.main_v6_8 _ _ _ _ _ b t d

end Trip

/-! ## The loop -/

variable (X : FVec Ideal S8x1024x512 .f32) (A : FVec Ideal S512x16 .f32) (B C : FVec Ideal S8x1024x16 .f32)

/-- The state before trip `t`. -/
def stateAt : ℕ → State Ideal
  | 0 => init X B C A
  | t + 1 => step t (stateAt t)

/-- No trip changes the loop's constants. -/
theorem constants (t : ℕ) : (stateAt X A B C t).main_v6_0 = A_main_v1 A ∧ (stateAt X A B C t).main_v6_1 = X
    ∧ (stateAt X A B C t).main_v6_2 = B ∧ (stateAt X A B C t).main_v6_3 = C := by
  induction t with
  | zero => exact ⟨rfl, rfl, rfl, rfl⟩
  | succ t ih => exact ih

/-- The decay that the state is multiplied by. -/
theorem loop_decay (t : ℕ) (b : Fin 8) (d : Fin 512) (n : Fin 16) : b2 t (stateAt X A B C t) (ix3 b d n) = decay A n d := by
  unfold b2
  rw [(constants X A B C t).1]
  exact spread_decay A _ _ b d n

/-- The state before trip `t`. -/
theorem state_at (t : ℕ) (ht : t ≤ 1024) (b : Fin 8) (d : Fin 512) (n : Fin 16) :
    (stateAt X A B C t).main_v6_7 (ix3 b d n) = full X A B b n d t := by
  induction t with
  | zero => exact zeros_at (s := S8x512x16) (by decide) (ix3 b d n)
  | succ t ih =>
    show b17 t (stateAt X A B C t) (ix3 b d n) = _
    obtain ⟨-, hX, hB, -⟩ := constants X A B C t
    rw [state_next t _ (by omega), ih (by omega), hX, hB, loop_decay]
    rfl

/-- The row that trip `t` writes. -/
theorem row_at (t : ℕ) (ht : t < 1024) (b : Fin 8) (d : Fin 512) :
    b26 t (stateAt X A B C t) (ix2 b d) = ∑ n : Fin 16, full X A B b n d (t + 1) * C (ix3 b (rowOf 1024 t) n) := by
  rw [row_next t _ ht, (constants X A B C t).2.2.2]
  refine Finset.sum_congr rfl fun (n : Fin 16) _ => congrArg (· * _) ?_
  exact state_at X A B C (t + 1) (by omega) b d n

/-- `y` before trip `t`: the rows below `t` are written. -/
theorem y_at (t : ℕ) (ht : t ≤ 1024) (b : Fin 8) (r : Fin 1024) (hr : r.val < t) (d : Fin 512) :
    (stateAt X A B C t).main_v6_8 (ix3 b r d) = ∑ n : Fin 16, full X A B b n d (r.val + 1) * C (ix3 b r n) := by
  induction t with
  | zero => omega
  | succ t ih =>
    show b33 t (stateAt X A B C t) (ix3 b r d) = _
    rw [y_next t _ (by omega)]
    by_cases h : r.val = t
    · subst h
      rw [if_pos rfl, row_at X A B C _ r.isLt, show rowOf 1024 r.val = r from Fin.ext (Nat.mod_eq_of_lt r.isLt)]
    · rw [if_neg h]
      exact ih (by omega) (by omega)

end Cert.RecurrenceIdealRun

end
-- ==== Proof.Value.Equation.lean ====
/-
The equation: on every device the kernel's result is the device's rows of the reference's. A device with the first half of
the rows runs the recurrence from zero on its own; so does a device with the second half, from row 512 anew, and over
its first 64 rows the correction turns that into the recurrence over all rows before. In the rows below 576 that is also
reference.py's own recurrence.
-/
module

public import proofs.«01_k».proof.Defs
public import proofs.«01_k».proof.Proof.KernelIdeal.Run
public import proofs.«01_k».proof.Proof.Value.ReferenceValue
public import proofs.«01_k».proof.Proof.Value.RecurrenceValue

@[expose] public section

noncomputable section

namespace Cert.Equation

open Cert.KernelIdealRun Cert.Scan Cert.HostRows
open Idealize.ShloMosaic Idealize.ShloMosaic.ValueIdx Idealize.ShloMosaic.TcCoe

/-- An index of an array of three axes is its three coordinates. -/
theorem three {p q r : ℕ} (i : (⟨3, ![p, q, r]⟩ : Shape).Idx) : ∃ (a : Fin p) (b : Fin q) (c : Fin r), i = ix3 a b c :=
  ⟨i 0, i 1, i 2, funext fun a => by
    match a with
    | ⟨0, _⟩ => rfl
    | ⟨1, _⟩ => rfl
    | ⟨2, _⟩ => rfl⟩

/-- The row of the whole array that is row `r` of device `c`'s block. -/
def globalRow (c : Dev 4) (r : Fin 512) : Fin 1024 := ⟨512 * (c.val % 2) + r.val, by omega⟩

/-- Device `c`'s block of an array cut along its rows, at an index. -/
theorem block_at {α : Type} {W : ℕ} (c : Dev 4) (v : (⟨3, ![8, 1024, W]⟩ : Shape).Idx → α)
    (h : Layout.TilesN ⟨3, ![8, 512, W]⟩ ⟨3, ![8, 1024, W]⟩ (fun b => Layout.cutSize [2, 2] ((![[], [1], []] : Fin 3 → List ℕ) b)))
    (b : Fin 8) (r : Fin 512) (w : Fin W) :
    Layout.blockN ⟨3, ![8, 512, W]⟩ ⟨3, ![8, 1024, W]⟩ (Layout.meshBlock [2, 2] ![[], [1], []] c) v h (ix3 b r w) = v (ix3 b (globalRow c r) w) := by
  rw [Layout.blockN_apply]
  refine congrArg v (funext fun a => Fin.ext ?_)
  rw [Layout.TilesN.idx_val]
  match a with
  | ⟨0, _⟩ => show 0 * 8 + b.val = b.val; omega
  | ⟨1, _⟩ => show ((c.val / 1) % 2 * 1 + 0) * 512 + r.val = 512 * (c.val % 2) + r.val; omega
  | ⟨2, _⟩ => show 0 * W + w.val = w.val; simp

section Blocks

open Cert.KernelIdeal

variable (X : FVec Ideal ⟨3, ![8, 1024, 512]⟩ .f32) (A : FVec Ideal ⟨2, ![512, 16]⟩ .f32) (B C : FVec Ideal ⟨3, ![8, 1024, 16]⟩ .f32)

/-- Device `c`'s rows of `x`. -/
def xBlock (c : Dev 4) : FVec Ideal ⟨3, ![8, 512, 512]⟩ .f32 :=
  Layout.blockN ⟨3, ![8, 512, 512]⟩ ⟨3, ![8, 1024, 512]⟩ (Layout.meshBlock [2, 2] ![[], [1], []] c) X

/-- Device `c`'s rows of `B` or `C`. -/
def sBlock (c : Dev 4) (V : FVec Ideal ⟨3, ![8, 1024, 16]⟩ .f32) : FVec Ideal ⟨3, ![8, 512, 16]⟩ .f32 :=
  Layout.blockN ⟨3, ![8, 512, 16]⟩ ⟨3, ![8, 1024, 16]⟩ (Layout.meshBlock [2, 2] ![[], [1], []] c) V

theorem xBlock_at (c : Dev 4) (b : Fin 8) (r d : Fin 512) : xBlock X c (ix3 b r d) = X (ix3 b (globalRow c r) d) := block_at c X _ b r d

theorem sBlock_at (c : Dev 4) (V : FVec Ideal ⟨3, ![8, 1024, 16]⟩ .f32) (b : Fin 8) (r : Fin 512) (n : Fin 16) :
    sBlock c V (ix3 b r n) = V (ix3 b (globalRow c r) n) := block_at c V _ b r n

/-- The inputs of a device's own recurrence are the whole recurrence's, from the device's first row on. -/
theorem input_block (c : Dev 4) (b : Fin 8) (n : Fin 16) (d : Fin 512) (t : ℕ) (ht : t < 512) :
    input (xBlock X c) (sBlock c B) b n d t = input X B b n d (512 * (c.val % 2) + t) := by
  have e : globalRow c (rowOf 512 t) = rowOf 1024 (512 * (c.val % 2) + t) := Fin.ext (by
    show 512 * (c.val % 2) + t % 512 = (512 * (c.val % 2) + t) % 1024
    omega)
  unfold input
  rw [xBlock_at, sBlock_at, e]

/-- A device with the first half runs the recurrence itself. -/
theorem own_first (c : Dev 4) (hc : c.val % 2 = 0) (b : Fin 8) (n : Fin 16) (d : Fin 512) (k : ℕ) (hk : k ≤ 512) :
    run 0 (decay A n d) (input (xBlock X c) (sBlock c B) b n d) k = full X A B b n d k :=
  run_congr _ _ _ _ k fun t ht => by rw [input_block X B c b n d t (by omega), hc, Nat.mul_zero, Nat.zero_add]

/-- A device with the second half runs it anew from row 512. -/
theorem own_second (c : Dev 4) (hc : ¬ c.val % 2 = 0) (b : Fin 8) (n : Fin 16) (d : Fin 512) (k : ℕ) (hk : k ≤ 512) :
    run 0 (decay A n d) (input (xBlock X c) (sBlock c B) b n d) k = anew X A B b n d k :=
  run_congr _ _ _ _ k fun t ht => by rw [input_block X B c b n d t (by omega), show c.val % 2 = 1 by omega, Nat.mul_one]

/-- The recurrence over all rows, begun anew at row 512 with the state reached there. -/
theorem full_from (b : Fin 8) (n : Fin 16) (d : Fin 512) (k : ℕ) :
    full X A B b n d (512 + k) = run (full X A B b n d 512) (decay A n d) (fun i => input X B b n d (512 + i)) k := run_add _ _ _ 512 k

variable {X A B C} (hX : ∀ i, Finite (X i)) (hA : ∀ i, Finite (A i)) (hB : ∀ i, Finite (B i)) (hC : ∀ i, Finite (C i))

include hX hA hB hC in
/-- The corrected row of a device with the second half is the row of the recurrence over all rows. -/
theorem corrected_row (b : Fin 8) (d : Fin 512) (k : ℕ) (c : Fin 16 → EReal) (hc : ∀ n, Finite (c n)) :
    ∑ n : Fin 16, anew X A B b n d k * c n
        + ∑ n : Fin 16, Ideal.exp (A (ix2 d n) * ((k : ℝ) : EReal)) * full X A B b n d 512 * c n
      = ∑ n : Fin 16, full X A B b n d (512 + k) * c n := by
  rw [← Finset.sum_add_distrib]
  refine Finset.sum_congr rfl fun (n : Fin 16) _ => ?_
  have hu : ∀ t, Finite (input X B b n d t) := fun t => (hX _).mul (hB _)
  rw [full_from]
  exact correct_term (Finite.run (Finite.coe 0) (hA _).exp hu 512) (hA _) (hc n) (fun t => hu (512 + t)) k

end Blocks

section Result

open Cert.KernelIdeal

variable (m : (ℓ : Loc nD τ sig) → Buf (Elt Ideal) ℓ)
variable {X : FVec Ideal ⟨3, ![8, 1024, 512]⟩ .f32} {A : FVec Ideal ⟨2, ![512, 16]⟩ .f32} {B C : FVec Ideal ⟨3, ![8, 1024, 16]⟩ .f32}

/-- Each device's argument buffers hold its part of the whole arrays. -/
structure Holding (X : FVec Ideal ⟨3, ![8, 1024, 512]⟩ .f32) (A : FVec Ideal ⟨2, ![512, 16]⟩ .f32)
    (B C : FVec Ideal ⟨3, ![8, 1024, 16]⟩ .f32) : Prop where
  x : ∀ c : Dev nD, xAt m c = xBlock X c
  a : ∀ c : Dev nD, aAt m c = A
  b : ∀ c : Dev nD, bAt m c = sBlock c B
  c : ∀ c : Dev nD, cAt m c = sBlock c C

variable {m} (h : Holding m X A B C)

include h in
/-- The output before any correction. -/
theorem plain_at (c : Dev nD) (b : Fin 8) (r d : Fin 512) :
    plain m c (ix3 b r d)
      = ∑ n : Fin 16, run 0 (decay A n d) (input (xBlock X c) (sBlock c B) b n d) (r.val + 1) * C (ix3 b (globalRow c r) n) := by
  unfold plain
  rw [outPlain_value, h.x, h.a, h.b, h.c]
  refine Finset.sum_congr rfl fun (n : Fin 16) _ => ?_
  rw [sBlock_at]

include h in
/-- The state that a device with the first half hands over. -/
theorem hand_at (c : Dev nD) (hc : c.val % 2 = 0) (b : Fin 8) (n : Fin 16) (d : Fin 512) :
    hand m c (ix3 b n d) = full X A B b n d 512 := by
  unfold hand
  rw [lastState_value, h.x, h.a, h.b]
  exact own_first X A B c hc b n d 512 (le_refl _)

variable (hX : ∀ i, Finite (X i)) (hA : ∀ i, Finite (A i)) (hB : ∀ i, Finite (B i)) (hC : ∀ i, Finite (C i))

include h hX hA hB hC in
/-- The kernel's result on a device, at an index. -/
theorem out_at (c : Dev nD) (b : Fin 8) (r d : Fin 512) :
    outAt m c (ix3 b r d) = ∑ n : Fin 16, ReferenceIdealRun.rowState X A B b n d (globalRow c r).val * C (ix3 b (globalRow c r) n) := by
  by_cases hc : c.val % 2 = 0
  · have e : (globalRow c r).val = r.val := by show 512 * (c.val % 2) + r.val = r.val; omega
    rw [outAt_sends m c hc, plain_at h]
    refine Finset.sum_congr rfl fun (n : Fin 16) _ => ?_
    rw [own_first X A B c hc b n d _ (by omega), e]
    unfold ReferenceIdealRun.rowState
    rw [if_pos (by omega)]
  · have e : (globalRow c r).val = 512 + r.val := by show 512 * (c.val % 2) + r.val = _; omega
    have hp : (peer c).val % 2 = 0 := by show ((2 * (c.val / 2) + 1) - c.val % 2) % 2 = 0; omega
    rw [outAt_receives m c hc]
    by_cases hr : r.val < 64
    · rw [corrected_value _ _ _ _ b r d hr, plain_at h, h.a, h.c]
      refine Eq.trans ?_ ((corrected_row hX hA hB hC b d (r.val + 1) (fun n => C (ix3 b (globalRow c r) n)) (fun n => hC _)).trans ?_)
      · refine congrArg₂ (· + ·) (Finset.sum_congr rfl fun (n : Fin 16) _ => ?_) (Finset.sum_congr rfl fun (n : Fin 16) _ => ?_)
        · rw [own_second X A B c hc b n d _ (by omega)]
        · rw [hand_at h _ hp, sBlock_at]
      · refine Finset.sum_congr rfl fun (n : Fin 16) _ => ?_
        unfold ReferenceIdealRun.rowState
        rw [e, if_pos (by omega), Nat.add_assoc]
    · rw [corrected_rest _ _ _ _ _ hr, plain_at h]
      refine Finset.sum_congr rfl fun (n : Fin 16) _ => ?_
      rw [own_second X A B c hc b n d _ (by omega), e]
      unfold ReferenceIdealRun.rowState
      rw [if_neg (by omega), show 512 + r.val - 511 = r.val + 1 by omega]

include h hX hA hB hC in
/-- THE EQUATION: the kernel's result on a device is the device's rows of the reference's result. -/
theorem out_eq (c : Dev nD) : outAt m c = xBlock (ReferenceIdealRun.stateAt X A B C 1024).main_v6_9 c := by
  funext i
  obtain ⟨b, r, d, rfl⟩ := three i
  rw [out_at h hX hA hB hC, xBlock_at, ReferenceIdealRun.result_at]

/-- Where the mask holds, the row is below 576. -/
theorem mask_at [Cert.On_corrected_rows.Facts] (b : Fin 8) (r : Fin 1024) (d : Fin 512)
    (hm : Cert.On_corrected_rows.fn (F := Ideal) X A B C (ix3 b r d) = 1#1) : r.val < 576 := by
  unfold Cert.On_corrected_rows.fn at hm
  rw [broadcastInDim_apply _ _ _ (ix3 b r d) (ix3 (0 : Fin 1) r (0 : Fin 1)) (fun a => by
      match a with
      | ⟨0, _⟩ => rfl
      | ⟨1, _⟩ => rfl
      | ⟨2, _⟩ => rfl)] at hm
  have hb : IntOp.cmpi .slt (BitVec.ofNat 32 r.val) (BitVec.ofNat 32 576) = 1#1 := hm
  rw [word_slt r.val 576 r.isLt (by omega)] at hb
  by_contra hn
  rw [decide_eq_false hn] at hb
  exact absurd hb (by decide)

include h hX hA hB hC in
/-- In the rows below 576 it is also the device's rows of reference.py's own recurrence. -/
theorem out_exact [Cert.On_corrected_rows.Facts] (c : Dev nD) (i : (⟨3, ![8, 512, 512]⟩ : Shape).Idx)
    (hm : (Layout.blockN ⟨3, ![8, 512, 512]⟩ ⟨3, ![8, 1024, 512]⟩ (Layout.meshBlock [2, 2] ![[], [1], []] c)
      (Cert.On_corrected_rows.fn (F := Ideal) X A B C) : (⟨3, ![8, 512, 512]⟩ : Shape).Idx → _) i = 1#1) :
    outAt m c i = xBlock (RecurrenceIdealRun.stateAt X A B C 1024).main_v6_8 c i := by
  obtain ⟨b, r, d, rfl⟩ := three i
  have hr : (globalRow c r).val < 576 := mask_at b (globalRow c r) d ((block_at c _ _ b r d).symm.trans hm)
  rw [out_at h hX hA hB hC, xBlock_at, RecurrenceIdealRun.y_at X A B C 1024 (le_refl _) b _ (globalRow c r).isLt d]
  exact Finset.sum_congr rfl fun (n : Fin 16) _ => congrArg (· * _) (if_pos hr)

end Result

/-! ## Finiteness -/

/-- Every row of the whole array is a row of some device's block. -/
theorem all_rows {W : ℕ} (v : FVec Ideal ⟨3, ![8, 1024, W]⟩ .f32)
    (h : Layout.TilesN ⟨3, ![8, 512, W]⟩ ⟨3, ![8, 1024, W]⟩ (fun b => Layout.cutSize [2, 2] ((![[], [1], []] : Fin 3 → List ℕ) b)))
    (hf : ∀ (c : Dev 4) i, Finite (Layout.blockN ⟨3, ![8, 512, W]⟩ ⟨3, ![8, 1024, W]⟩ (Layout.meshBlock [2, 2] ![[], [1], []] c) v h i)) (i) :
    Finite (v i) := by
  obtain ⟨b, R, w, rfl⟩ := three i
  have := hf ⟨R.val / 512, by show _ < 4; omega⟩ (ix3 b ⟨R.val % 512, by omega⟩ w)
  rwa [block_at _ v h b _ w, show globalRow ⟨R.val / 512, _⟩ ⟨R.val % 512, _⟩ = R from
    Fin.ext (by show 512 * (R.val / 512 % 2) + R.val % 512 = R.val; omega)] at this

/-- A comparison with infinity that holds says the element is a real number. -/
theorem finite_of_bit {s : Shape} (v : FVec Ideal s .f32) (hb : (⟨0, ![]⟩ : Shape).BroadcastsInDim s (![] : Fin 0 → Fin s.rank))
    (h : cmpf .olt (Host.absf v) (broadcastInDim s ![] hb (constant ⟨0, ![]⟩ .f32 0x7F800000#32)) = fun _ => 1#1) (i : s.Idx) :
    Finite (v i) := by
  have h' := congrFun h i
  rw [cmpf_apply, broadcastInDim_scalar_apply] at h'
  have h2 : BitVec.ofBool (decide (max (v i) (-(v i)) < Ideal.ofBits .f32 0x7F800000#32)) = 1#1 := h'
  refine finite_of_abs_lt ?_
  by_contra hn
  rw [show Ideal.ofBits .f32 0x7F800000#32 = ⊤ by simp [Ideal.ofBits, Ideal.ieee], decide_eq_false hn] at h2
  exact absurd h2 (by decide)

section Claims

open Cert.KernelIdeal

variable (m : (ℓ : Loc nD τ sig) → Buf (Elt Ideal) ℓ) [Cert.Pre_finite_KernelIdeal.Facts]

/-- Under the precondition every element of every device's arguments is a real number. -/
theorem finite_args (h : Cert.Pre_KernelIdeal_finite_KernelIdeal m) (c : Dev nD) :
    (∀ i, Finite ((m ((c : Thread nD τ).loc main_arg0) : FVec Ideal ⟨3, ![8, 512, 512]⟩ .f32) i))
      ∧ (∀ i, Finite ((m ((c : Thread nD τ).loc main_arg1) : FVec Ideal ⟨2, ![512, 16]⟩ .f32) i))
      ∧ (∀ i, Finite ((m ((c : Thread nD τ).loc main_arg2) : FVec Ideal ⟨3, ![8, 512, 16]⟩ .f32) i))
      ∧ (∀ i, Finite ((m ((c : Thread nD τ).loc main_arg3) : FVec Ideal ⟨3, ![8, 512, 16]⟩ .f32) i)) :=
  ⟨finite_of_bit _ _ (h c).1, finite_of_bit _ _ (h c).2.1, finite_of_bit _ _ (h c).2.2.1, finite_of_bit _ _ (h c).2.2.2⟩

variable {m}

/-- What the claims give: the devices hold their parts of the whole arrays, and every element is a real number. -/
theorem given {X : FVec Ideal ⟨3, ![8, 1024, 512]⟩ .f32} {A : FVec Ideal ⟨2, ![512, 16]⟩ .f32} {B C : FVec Ideal ⟨3, ![8, 1024, 16]⟩ .f32}
    (hpre : Cert.Pre_KernelIdeal_finite_KernelIdeal m)
    (harg : ∀ c : Dev nD, m ((c.tc : Thread nD τ).loc main_arg0) = xBlock X c ∧ m ((c.tc : Thread nD τ).loc main_arg1) = A
      ∧ m ((c.tc : Thread nD τ).loc main_arg2) = sBlock c B ∧ m ((c.tc : Thread nD τ).loc main_arg3) = sBlock c C) :
    Holding m X A B C ∧ (∀ i, Finite (X i)) ∧ (∀ i, Finite (A i)) ∧ (∀ i, Finite (B i)) ∧ ∀ i, Finite (C i) := by
  have hfin := finite_args m hpre
  refine ⟨⟨fun c => (xAt_eq m c).trans (harg c).1, fun c => (aAt_eq m c).trans (harg c).2.1,
    fun c => (bAt_eq m c).trans (harg c).2.2.1, fun c => (cAt_eq m c).trans (harg c).2.2.2⟩,
    all_rows X (by decide) fun c i => ?_, fun i => ?_, all_rows B (by decide) fun c i => ?_, all_rows C (by decide) fun c i => ?_⟩
  · have := (hfin c).1 i
    rw [(harg c).1] at this
    exact this
  · have := (hfin 0).2.1 i
    rw [(harg 0).2.1] at this
    exact this
  · have := (hfin c).2.2.1 i
    rw [(harg c).2.2.1] at this
    exact this
  · have := (hfin c).2.2.2 i
    rw [(harg c).2.2.2] at this
    exact this

end Claims

end Cert.Equation

end
-- ==== Proof.lean ====
/-
The claims, assembled: the frames are the runs with their values dropped, and a value claim is the kernel's run, a
reference's run and the equation between what they leave.
-/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Step
public import proofs.«01_k».proof.Proof.Gen.ReferenceIdeal.StepRun
public import proofs.«01_k».proof.Proof.Gen.RecurrenceIdeal
public import proofs.«01_k».proof.Proof.Gen.RecurrenceIdeal.Run
public import proofs.«01_k».proof.Proof.Gen.RecurrenceIdeal.Step
public import proofs.«01_k».proof.Proof.Gen.RecurrenceIdeal.StepRun
public import proofs.«01_k».proof.Proof.Kernel.Run
public import proofs.«01_k».proof.Proof.KernelIdeal.Run
public import proofs.«01_k».proof.Proof.Value.Equation
public import Idealize.ShloMosaic.Lib.Quiescent
public import Idealize.ShloMosaic.Adequacy
public import Idealize.ShloMosaic.Init

@[expose] public section

noncomputable section

namespace Cert.Proof

open Idealize.ShloMosaic Idealize.SL.Sem

/-- The shapes that the precondition broadcasts to, on a device. -/
theorem pre_kernel : Cert.Pre_finite_KernelIdeal.Facts where
  bcast_S_S8x512x512 := by decide
  bcast_S_S512x16 := by decide
  bcast_S_S8x512x16 := by decide

/-- The shapes that the precondition broadcasts to, of the whole arrays. -/
theorem pre_reference : Cert.Pre_finite_ReferenceIdeal.Facts where
  bcast_S_S8x1024x512 := by decide
  bcast_S_S512x16 := by decide
  bcast_S_S8x1024x16 := by decide

/-- The shapes that the mask broadcasts to. -/
theorem on_rows : Cert.On_corrected_rows.Facts where
  bcast_S1024_S1x1024x1_1 := by decide
  bcast_S_S1x1024x1 := by decide
  bcast_S1x1024x1_S8x1024x512_0_1_2 := by decide

/-- The kernel terminates with its arguments unchanged and every counter at zero. -/
theorem frame_kernel : Cert.quiescent_Kernel (hKernel := Cert.Kernel.Gen.facts) := fun m ρ _ =>
  (θ_run _ _ _).mono (fun _ h => ⟨fun c => (h.1 c).2, h.2⟩) (Cert.KernelRun.run_result m ρ)

/-- So does the kernel over the extended reals. -/
theorem frame_ideal (m : (ℓ : Loc Cert.KernelIdeal.nD Cert.KernelIdeal.τ Cert.KernelIdeal.sig) → Buf (Elt Ideal) ℓ)
    (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩ fun r =>
      (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0 :=
  (θ_run _ _ _).mono (fun _ h => ⟨fun c => (h.1 c).2, h.2⟩) (Cert.KernelIdealRun.run_result m ρ)

/-- The reference terminates with its arguments unchanged; it has no counters. -/
theorem frame_reference (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ fun r =>
      (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0 :=
  (θ_run _ _ _).mono (fun r h => ⟨fun c => (h c).2, sem_eq_zero_of_no_sems (by decide) r.2⟩) (Cert.ReferenceIdeal.Value.run m ρ)

/-- So does reference.py's own recurrence. -/
theorem frame_recurrence (m : (ℓ : Loc Cert.RecurrenceIdeal.nD Cert.RecurrenceIdeal.τ Cert.RecurrenceIdeal.sig) → Buf (Elt Ideal) ℓ)
    (ρ : Dev Cert.RecurrenceIdeal.nD → PrngReg) :
    θ_run (Cert.RecurrenceIdeal.defs (F := Ideal)) (onTc (τ := Cert.RecurrenceIdeal.τ) (Cert.RecurrenceIdeal.main (F := Ideal))) ⟨m, fun _ => 0, ρ⟩ fun r =>
      (∀ c : Dev Cert.RecurrenceIdeal.nD,
        r.2.mem ((c.tc : Thread Cert.RecurrenceIdeal.nD Cert.RecurrenceIdeal.τ).loc Cert.RecurrenceIdeal.main_arg0) = m ((c.tc : Thread Cert.RecurrenceIdeal.nD Cert.RecurrenceIdeal.τ).loc Cert.RecurrenceIdeal.main_arg0)
        ∧ r.2.mem ((c.tc : Thread Cert.RecurrenceIdeal.nD Cert.RecurrenceIdeal.τ).loc Cert.RecurrenceIdeal.main_arg1) = m ((c.tc : Thread Cert.RecurrenceIdeal.nD Cert.RecurrenceIdeal.τ).loc Cert.RecurrenceIdeal.main_arg1)
        ∧ r.2.mem ((c.tc : Thread Cert.RecurrenceIdeal.nD Cert.RecurrenceIdeal.τ).loc Cert.RecurrenceIdeal.main_arg2) = m ((c.tc : Thread Cert.RecurrenceIdeal.nD Cert.RecurrenceIdeal.τ).loc Cert.RecurrenceIdeal.main_arg2)
        ∧ r.2.mem ((c.tc : Thread Cert.RecurrenceIdeal.nD Cert.RecurrenceIdeal.τ).loc Cert.RecurrenceIdeal.main_arg3) = m ((c.tc : Thread Cert.RecurrenceIdeal.nD Cert.RecurrenceIdeal.τ).loc Cert.RecurrenceIdeal.main_arg3))
      ∧ r.2.sem = fun _ => 0 :=
  (θ_run _ _ _).mono (fun r h => ⟨fun c => (h c).2, sem_eq_zero_of_no_sems (by decide) r.2⟩) (Cert.RecurrenceIdeal.Value.run m ρ)

open Cert.Equation in
/-- Kernel and reference compute the same over the extended reals: each device's result is its rows of the reference's. -/
theorem value : Cert.algebraic_KernelIdeal_ReferenceIdeal_pre_finite_KernelIdeal (hKernelIdeal := Cert.KernelIdeal.Gen.facts)
    (hReferenceIdeal := Cert.ReferenceIdeal.Gen.facts) (hPre_finite_KernelIdeal := pre_kernel) := by
  intro m ρ m' ρ' hpre harg
  let X : FVec Ideal ⟨3, ![8, 1024, 512]⟩ .f32 := m' (((0 : Dev Cert.ReferenceIdeal.nD).tc : Thread Cert.ReferenceIdeal.nD Cert.ReferenceIdeal.τ).loc Cert.ReferenceIdeal.main_arg0)
  let A : FVec Ideal ⟨2, ![512, 16]⟩ .f32 := m' (((0 : Dev Cert.ReferenceIdeal.nD).tc : Thread Cert.ReferenceIdeal.nD Cert.ReferenceIdeal.τ).loc Cert.ReferenceIdeal.main_arg1)
  let B : FVec Ideal ⟨3, ![8, 1024, 16]⟩ .f32 := m' (((0 : Dev Cert.ReferenceIdeal.nD).tc : Thread Cert.ReferenceIdeal.nD Cert.ReferenceIdeal.τ).loc Cert.ReferenceIdeal.main_arg2)
  let C : FVec Ideal ⟨3, ![8, 1024, 16]⟩ .f32 := m' (((0 : Dev Cert.ReferenceIdeal.nD).tc : Thread Cert.ReferenceIdeal.nD Cert.ReferenceIdeal.τ).loc Cert.ReferenceIdeal.main_arg3)
  obtain ⟨hold, hX, hA, hB, hC⟩ := @given m pre_kernel X A B C hpre harg
  refine ⟨(Cert.ReferenceIdealRun.stateAt X A B C 1024).main_v6_9, ?_, ?_⟩
  · refine (θ_run _ _ _).mono (fun r h c => ⟨(h.1 c).1.trans ?_, (h.1 c).2⟩) (Cert.KernelIdealRun.run_result m ρ)
    exact out_eq hold hX hA hB hC c
  · have href := Cert.ReferenceIdeal.StepRun.run_iter m' ρ' (fun c => Cert.ReferenceIdealRun.stateAt
      (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2))
      (m' ((c.tc : Thread Cert.ReferenceIdeal.nD Cert.ReferenceIdeal.τ).loc Cert.ReferenceIdeal.main_arg3))) (fun _ => rfl) (fun _ _ => rfl)
    exact (θ_run _ _ _).mono (fun r h => h 0) href

open Cert.Equation in
/-- In the rows below 576 the kernel computes what reference.py's own recurrence does, over the extended reals. -/
theorem exact_value : Cert.algebraic_KernelIdeal_RecurrenceIdeal_on_corrected_rows_pre_finite_KernelIdeal (hKernelIdeal := Cert.KernelIdeal.Gen.facts)
    (hRecurrenceIdeal := Cert.RecurrenceIdeal.Gen.facts) (hPre_finite_KernelIdeal := pre_kernel) (hOn_corrected_rows := on_rows) := by
  intro m ρ m' ρ' hpre harg
  let X : FVec Ideal ⟨3, ![8, 1024, 512]⟩ .f32 := m' (((0 : Dev Cert.RecurrenceIdeal.nD).tc : Thread Cert.RecurrenceIdeal.nD Cert.RecurrenceIdeal.τ).loc Cert.RecurrenceIdeal.main_arg0)
  let A : FVec Ideal ⟨2, ![512, 16]⟩ .f32 := m' (((0 : Dev Cert.RecurrenceIdeal.nD).tc : Thread Cert.RecurrenceIdeal.nD Cert.RecurrenceIdeal.τ).loc Cert.RecurrenceIdeal.main_arg1)
  let B : FVec Ideal ⟨3, ![8, 1024, 16]⟩ .f32 := m' (((0 : Dev Cert.RecurrenceIdeal.nD).tc : Thread Cert.RecurrenceIdeal.nD Cert.RecurrenceIdeal.τ).loc Cert.RecurrenceIdeal.main_arg2)
  let C : FVec Ideal ⟨3, ![8, 1024, 16]⟩ .f32 := m' (((0 : Dev Cert.RecurrenceIdeal.nD).tc : Thread Cert.RecurrenceIdeal.nD Cert.RecurrenceIdeal.τ).loc Cert.RecurrenceIdeal.main_arg3)
  obtain ⟨hold, hX, hA, hB, hC⟩ := @given m pre_kernel X A B C hpre harg
  refine ⟨(Cert.RecurrenceIdealRun.stateAt X A B C 1024).main_v6_8, ?_, ?_⟩
  · refine (θ_run _ _ _).mono (fun r h c => ⟨fun i hi => (congrFun (h.1 c).1 i).trans ?_, (h.1 c).2⟩) (Cert.KernelIdealRun.run_result m ρ)
    exact @out_exact m X A B C hold hX hA hB hC on_rows c i hi
  · have href := Cert.RecurrenceIdeal.StepRun.run_iter m' ρ' (fun c => Cert.RecurrenceIdealRun.stateAt
      (m' ((c.tc : Thread Cert.RecurrenceIdeal.nD Cert.RecurrenceIdeal.τ).loc Cert.RecurrenceIdeal.main_arg0))
      (m' ((c.tc : Thread Cert.RecurrenceIdeal.nD Cert.RecurrenceIdeal.τ).loc Cert.RecurrenceIdeal.main_arg1))
      (m' ((c.tc : Thread Cert.RecurrenceIdeal.nD Cert.RecurrenceIdeal.τ).loc Cert.RecurrenceIdeal.main_arg2))
      (m' ((c.tc : Thread Cert.RecurrenceIdeal.nD Cert.RecurrenceIdeal.τ).loc Cert.RecurrenceIdeal.main_arg3))) (fun _ => rfl) (fun _ _ => rfl)
    exact (θ_run _ _ _).mono (fun r h => ⟨fun i _ => congrFun (h 0).1 i, (h 0).2⟩) href

theorem claim : Cert.Claim :=
  ⟨Cert.Kernel.Gen.facts, Cert.KernelIdeal.Gen.facts, Cert.ReferenceIdeal.Gen.facts, Cert.RecurrenceIdeal.Gen.facts,
    pre_kernel, pre_reference, on_rows,
    frame_kernel, fun m ρ _ => frame_ideal m ρ, fun m ρ _ => frame_ideal m ρ, fun m ρ _ => frame_reference m ρ,
    fun m ρ _ => frame_reference m ρ, fun m ρ _ => frame_recurrence m ρ, fun m ρ _ => frame_recurrence m ρ, trivial, value, exact_value⟩

end Cert.Proof

end
